-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_y_above [hPre_some_y_above : Cert.Pre_some_y_above.Facts] (m : (ℓ : Loc Cert.KernelIdeal.nD Cert.KernelIdeal.τ Cert.KernelIdeal.sig) → Buf (Elt Ideal) ℓ) : Prop :=
  ∀ c : Dev Cert.KernelIdeal.nD,
    (Cert.Pre_some_y_above.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_y_above [hPre_some_y_above : Cert.Pre_some_y_above.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_y_above.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_some_y_above [hKernelIdeal : Cert.KernelIdeal.Facts] [hPre_some_y_above : Cert.Pre_some_y_above.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_y_above m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_some_y_above [hReferenceIdeal : Cert.ReferenceIdeal.Facts] [hPre_some_y_above : Cert.Pre_some_y_above.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_y_above m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_some_y_above [hKernelIdeal : Cert.KernelIdeal.Facts] [hReferenceIdeal : Cert.ReferenceIdeal.Facts] [hPre_some_y_above : Cert.Pre_some_y_above.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_y_above m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_some_y_above : Cert.Pre_some_y_above.Facts),
    quiescent_Kernel (hKernel := hKernel)
    ∧ quiescent_KernelIdeal (hKernelIdeal := hKernelIdeal)
    ∧ quiescent_KernelIdeal_pre_some_y_above (hKernelIdeal := hKernelIdeal) (hPre_some_y_above := hPre_some_y_above)
    ∧ quiescent_ReferenceIdeal (hReferenceIdeal := hReferenceIdeal)
    ∧ quiescent_ReferenceIdeal_pre_some_y_above (hReferenceIdeal := hReferenceIdeal) (hPre_some_y_above := hPre_some_y_above)
    ∧ preserves_Kernel_KernelIdeal
    ∧ algebraic_KernelIdeal_ReferenceIdeal_pre_some_y_above (hKernelIdeal := hKernelIdeal) (hReferenceIdeal := hReferenceIdeal) (hPre_some_y_above := hPre_some_y_above)
-- ==== Pre_some_y_above.lean ====
abbrev S1x32x3x100000 : Shape := ⟨4, ![1, 32, 3, 100000]⟩
abbrev S1x32x1x100000 : Shape := ⟨4, ![1, 32, 1, 100000]⟩
abbrev S32x100000 : Shape := ⟨2, ![32, 100000]⟩
abbrev S_ : Shape := ⟨0, ![]⟩
abbrev S32 : Shape := ⟨1, ![32]⟩

class Facts : Prop where
  slices_S1x32x3x100000_S1x32x1x100000_0_0_1_0 : S1x32x3x100000.Slices ![0, 0, 1, 0] S1x32x1x100000
  shapeCasts_S1x32x1x100000_S32x100000 : S1x32x1x100000.ShapeCasts S32x100000
  reducesTo_S32x100000_S32_d1 : S32x100000.ReducesTo [1] S32
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S1x32x3x100000 .f32) : IVec S_ 1 :=
  let main_v0 : FVec F S1x32x1x100000 .f32 := (extractStridedSlice S1x32x1x100000 ![0, 0, 1, 0] · slices_S1x32x3x100000_S1x32x1x100000_0_0_1_0) main_arg0
  let main_v1 : FVec F S32x100000 .f32 := shapeCast S32x100000 main_v0 shapeCasts_S1x32x1x100000_S32x100000
  let main_cst : FVec F S_ .f32 := constant S_ .f32 0xFF800000#32
  let main_v2 : FVec F S32 .f32 := (fun x v => Host.reduce FloatOps.maximumf x v reducesTo_S32x100000_S32_d1 h_S_) main_v1 main_cst
  let main_cst_0 : FVec F S_ .f32 := constant S_ .f32 0xD01502F9#32
  let main_v3 : FVec F S32 .f32 := broadcastInDim S32 ![] bcast_S_S32 main_cst_0
  let main_v4 : IVec S32 1 := cmpf .ogt main_v2 main_v3
  let main_c : IVec S_ 1 := constantI S_ 1 1#1
  let main_v5 : IVec S_ 1 := (fun x v => Host.reduce IntOp.andi x v reducesTo_S32_S_d0 h_S_) main_v4 main_c
  main_v5
-- ==== Kernel.lean ====
abbrev S1x32x3x100000 : Shape := ⟨4, ![1, 32, 3, 100000]⟩
abbrev S9600000 : Shape := ⟨1, ![9600000]⟩
abbrev S32x16 : Shape := ⟨2, ![32, 16]⟩
abbrev S100000 : Shape := ⟨1, ![100000]⟩
abbrev S10000 : Shape := ⟨1, ![10000]⟩
abbrev S16 : Shape := ⟨1, ![16]⟩
abbrev S_ : Shape := ⟨0, ![]⟩
abbrev S1 : Shape := ⟨1, ![1]⟩
abbrev S1x16 : Shape := ⟨2, ![1, 16]⟩
abbrev S32x2 : Shape := ⟨2, ![32, 2]⟩

abbrev nBuf : Table → Nat
  | .hbm => 4
  | .local .scVector .vmem => 6
  | _ => 0

abbrev bufTy : (tb : Table) → Fin (nBuf tb) → BufTy
  | .hbm, ⟨0, _⟩ => ⟨S1x32x3x100000, .f32⟩
  | .hbm, ⟨1, _⟩ => ⟨S9600000, .f32⟩
  | .hbm, ⟨2, _⟩ => ⟨S32x16, .i32⟩
  | .hbm, ⟨3, _⟩ => ⟨S32x2, .i32⟩
  | .local .scVector .vmem, ⟨0, _⟩ => ⟨S100000, .f32⟩
  | .local .scVector .vmem, ⟨1, _⟩ => ⟨S10000, .f32⟩
  | .local .scVector .vmem, ⟨2, _⟩ => ⟨S10000, .f32⟩
  | .local .scVector .vmem, ⟨3, _⟩ => ⟨S16, .f32⟩
  | .local .scVector .vmem, ⟨4, _⟩ => ⟨S16, .f32⟩
  | .local .scVector .vmem, ⟨5, _⟩ => ⟨S16, .i32⟩
  | _, _ => ⟨S1x32x3x100000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c300000_i32 : BitVec 32 := 300000#32
  let v3 : BitVec 32 := Scalar.muli v1 c300000_i32
  let c100000_i32 : BitVec 32 := 100000#32
  let v4 : BitVec 32 := Scalar.addi v3 c100000_i32
  ![v4.toNat]
@[reducible] def k0_t1_loop : Scf.Loop 32 :=
  let c0_i32_1 : BitVec 32 := 0#32
  let c6250_i32 : BitVec 32 := 6250#32
  let v8 : BitVec 32 := Scalar.addi c0_i32_1 c6250_i32
  let c1_i32 : BitVec 32 := 1#32
  ⟨c0_i32_1, v8, c1_i32⟩
def k0_off2 (k0_t1 : Fin k0_t1_loop.trips) : Fin 1 → Nat :=
  let c0_i32_1 : BitVec 32 := 0#32
  let c1_i32 : BitVec 32 := 1#32
  let arg10 : BitVec 32 := Scf.iv c0_i32_1 c1_i32 k0_t1
  let c16_i32 : BitVec 32 := 16#32
  let v635 : BitVec 32 := Scalar.muli arg10 c16_i32
  let v636 : Index := Scalar.indexCast v635
  ![v636.toNat]
def k0_mult1 (v13 : BitVec 32) (v14 : BitVec 1) (v15 : BitVec 1) (v24 : BitVec 32) (v25 : BitVec 1) (v26 : BitVec 1) (v35 : BitVec 32) (v36 : BitVec 1) (v37 : BitVec 1) (v46 : BitVec 32) (v47 : BitVec 1) (v48 : BitVec 1) (v57 : BitVec 32) (v58 : BitVec 1) (v59 : BitVec 1) (v68 : BitVec 32) (v69 : BitVec 1) (v70 : BitVec 1) (v79 : BitVec 32) (v80 : BitVec 1) (v81 : BitVec 1) (v90 : BitVec 32) (v91 : BitVec 1) (v92 : BitVec 1) (v101 : BitVec 32) (v102 : BitVec 1) (v103 : BitVec 1) (v112 : BitVec 32) (v113 : BitVec 1) (v114 : BitVec 1) (v123 : BitVec 32) (v124 : BitVec 1) (v125 : BitVec 1) (v134 : BitVec 32) (v135 : BitVec 1) (v136 : BitVec 1) (v145 : BitVec 32) (v146 : BitVec 1) (v147 : BitVec 1) (v156 : BitVec 32) (v157 : BitVec 1) (v158 : BitVec 1) (v167 : BitVec 32) (v168 : BitVec 1) (v169 : BitVec 1) (v178 : BitVec 32) (v179 : BitVec 1) (v180 : BitVec 1) : BitVec 32 :=
  let c100000_i32_5 : BitVec 32 := 100000#32
  let v16 : BitVec 1 := Scalar.cmpi .slt v13 c100000_i32_5
  let v17 : BitVec 1 := Scalar.andi v15 v16
  let v18 : BitVec 1 := Scalar.ori v14 v17
  let c100000_i32_7 : BitVec 32 := 100000#32
  let v20 : BitVec 32 := Scalar.select v18 v13 c100000_i32_7
  let v27 : BitVec 1 := Scalar.cmpi .slt v24 v20
  let v28 : BitVec 1 := Scalar.andi v26 v27
  let v29 : BitVec 1 := Scalar.ori v25 v28
  let v31 : BitVec 32 := Scalar.select v29 v24 v20
  let v38 : BitVec 1 := Scalar.cmpi .slt v35 v31
  let v39 : BitVec 1 := Scalar.andi v37 v38
  let v40 : BitVec 1 := Scalar.ori v36 v39
  let v42 : BitVec 32 := Scalar.select v40 v35 v31
  let v49 : BitVec 1 := Scalar.cmpi .slt v46 v42
  let v50 : BitVec 1 := Scalar.andi v48 v49
  let v51 : BitVec 1 := Scalar.ori v47 v50
  let v53 : BitVec 32 := Scalar.select v51 v46 v42
  let v60 : BitVec 1 := Scalar.cmpi .slt v57 v53
  let v61 : BitVec 1 := Scalar.andi v59 v60
  let v62 : BitVec 1 := Scalar.ori v58 v61
  let v64 : BitVec 32 := Scalar.select v62 v57 v53
  let v71 : BitVec 1 := Scalar.cmpi .slt v68 v64
  let v72 : BitVec 1 := Scalar.andi v70 v71
  let v73 : BitVec 1 := Scalar.ori v69 v72
  let v75 : BitVec 32 := Scalar.select v73 v68 v64
  let v82 : BitVec 1 := Scalar.cmpi .slt v79 v75
  let v83 : BitVec 1 := Scalar.andi v81 v82
  let v84 : BitVec 1 := Scalar.ori v80 v83
  let v86 : BitVec 32 := Scalar.select v84 v79 v75
  let v93 : BitVec 1 := Scalar.cmpi .slt v90 v86
  let v94 : BitVec 1 := Scalar.andi v92 v93
  let v95 : BitVec 1 := Scalar.ori v91 v94
  let v97 : BitVec 32 := Scalar.select v95 v90 v86
  let v104 : BitVec 1 := Scalar.cmpi .slt v101 v97
  let v105 : BitVec 1 := Scalar.andi v103 v104
  let v106 : BitVec 1 := Scalar.ori v102 v105
  let v108 : BitVec 32 := Scalar.select v106 v101 v97
  let v115 : BitVec 1 := Scalar.cmpi .slt v112 v108
  let v116 : BitVec 1 := Scalar.andi v114 v115
  let v117 : BitVec 1 := Scalar.ori v113 v116
  let v119 : BitVec 32 := Scalar.select v117 v112 v108
  let v126 : BitVec 1 := Scalar.cmpi .slt v123 v119
  let v127 : BitVec 1 := Scalar.andi v125 v126
  let v128 : BitVec 1 := Scalar.ori v124 v127
  let v130 : BitVec 32 := Scalar.select v128 v123 v119
  let v137 : BitVec 1 := Scalar.cmpi .slt v134 v130
  let v138 : BitVec 1 := Scalar.andi v136 v137
  let v139 : BitVec 1 := Scalar.ori v135 v138
  let v141 : BitVec 32 := Scalar.select v139 v134 v130
  let v148 : BitVec 1 := Scalar.cmpi .slt v145 v141
  let v149 : BitVec 1 := Scalar.andi v147 v148
  let v150 : BitVec 1 := Scalar.ori v146 v149
  let v152 : BitVec 32 := Scalar.select v150 v145 v141
  let v159 : BitVec 1 := Scalar.cmpi .slt v156 v152
  let v160 : BitVec 1 := Scalar.andi v158 v159
  let v161 : BitVec 1 := Scalar.ori v157 v160
  let v163 : BitVec 32 := Scalar.select v161 v156 v152
  let v170 : BitVec 1 := Scalar.cmpi .slt v167 v163
  let v171 : BitVec 1 := Scalar.andi v169 v170
  let v172 : BitVec 1 := Scalar.ori v168 v171
  let v174 : BitVec 32 := Scalar.select v172 v167 v163
  let v181 : BitVec 1 := Scalar.cmpi .slt v178 v174
  let v182 : BitVec 1 := Scalar.andi v180 v181
  let v183 : BitVec 1 := Scalar.ori v179 v182
  let v185 : BitVec 32 := Scalar.select v183 v178 v174
  let c0_i32_8 : BitVec 32 := 0#32
  let v187 : BitVec 1 := Scalar.cmpi .sgt v185 c0_i32_8
  let v188 : BitVec 32 := Scalar.extui v187
  let c0_i32_9 : BitVec 32 := 0#32
  let v189 : BitVec 1 := Scalar.cmpi .slt v185 c0_i32_9
  let v190 : BitVec 32 := Scalar.extui v189
  let v191 : BitVec 32 := Scalar.subi v188 v190
  let c8_i32 : BitVec 32 := 8#32
  let c0_i32_10 : BitVec 32 := 0#32
  let v192 : BitVec 1 := Scalar.cmpi .sgt c8_i32 c0_i32_10
  let v193 : BitVec 32 := Scalar.extui v192
  let c0_i32_11 : BitVec 32 := 0#32
  let v194 : BitVec 1 := Scalar.cmpi .slt c8_i32 c0_i32_11
  let v195 : BitVec 32 := Scalar.extui v194
  let v196 : BitVec 32 := Scalar.subi v193 v195
  let v197 : BitVec 1 := Scalar.cmpi .ne v191 v196
  let v198 : BitVec 32 := Scalar.remsi v185 c8_i32
  let c0_i32_12 : BitVec 32 := 0#32
  let v199 : BitVec 1 := Scalar.cmpi .ne v198 c0_i32_12
  let v200 : BitVec 1 := Scalar.andi v197 v199
  let v186 : BitVec 32 := Scalar.divsi v185 c8_i32
  let c1_i32_13 : BitVec 32 := 1#32
  let v201 : BitVec 32 := Scalar.subi v186 c1_i32_13
  let v202 : BitVec 32 := Scalar.select v200 v201 v186
  let c8_i32_14 : BitVec 32 := 8#32
  let v203 : BitVec 32 := Scalar.muli v202 c8_i32_14
  let c99984_i32 : BitVec 32 := 99984#32
  let v204 : BitVec 32 := Scalar.minsi v203 c99984_i32
  v204

def k0_off3 (i : grid0.Coords) (v13 : BitVec 32) (v14 : BitVec 1) (v15 : BitVec 1) (v24 : BitVec 32) (v25 : BitVec 1) (v26 : BitVec 1) (v35 : BitVec 32) (v36 : BitVec 1) (v37 : BitVec 1) (v46 : BitVec 32) (v47 : BitVec 1) (v48 : BitVec 1) (v57 : BitVec 32) (v58 : BitVec 1) (v59 : BitVec 1) (v68 : BitVec 32) (v69 : BitVec 1) (v70 : BitVec 1) (v79 : BitVec 32) (v80 : BitVec 1) (v81 : BitVec 1) (v90 : BitVec 32) (v91 : BitVec 1) (v92 : BitVec 1) (v101 : BitVec 32) (v102 : BitVec 1) (v103 : BitVec 1) (v112 : BitVec 32) (v113 : BitVec 1) (v114 : BitVec 1) (v123 : BitVec 32) (v124 : BitVec 1) (v125 : BitVec 1) (v134 : BitVec 32) (v135 : BitVec 1) (v136 : BitVec 1) (v145 : BitVec 32) (v146 : BitVec 1) (v147 : BitVec 1) (v156 : BitVec 32) (v157 : BitVec 1) (v158 : BitVec 1) (v167 : BitVec 32) (v168 : BitVec 1) (v169 : BitVec 1) (v178 : BitVec 32) (v179 : BitVec 1) (v180 : BitVec 1) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c300000_i32 : BitVec 32 := 300000#32
  let v3 : BitVec 32 := Scalar.muli v1 c300000_i32
  let c100000_i32_5 : BitVec 32 := 100000#32
  let v16 : BitVec 1 := Scalar.cmpi .slt v13 c100000_i32_5
  let v17 : BitVec 1 := Scalar.andi v15 v16
  let v18 : BitVec 1 := Scalar.ori v14 v17
  let c100000_i32_7 : BitVec 32 := 100000#32
  let v20 : BitVec 32 := Scalar.select v18 v13 c100000_i32_7
  let v27 : BitVec 1 := Scalar.cmpi .slt v24 v20
  let v28 : BitVec 1 := Scalar.andi v26 v27
  let v29 : BitVec 1 := Scalar.ori v25 v28
  let v31 : BitVec 32 := Scalar.select v29 v24 v20
  let v38 : BitVec 1 := Scalar.cmpi .slt v35 v31
  let v39 : BitVec 1 := Scalar.andi v37 v38
  let v40 : BitVec 1 := Scalar.ori v36 v39
  let v42 : BitVec 32 := Scalar.select v40 v35 v31
  let v49 : BitVec 1 := Scalar.cmpi .slt v46 v42
  let v50 : BitVec 1 := Scalar.andi v48 v49
  let v51 : BitVec 1 := Scalar.ori v47 v50
  let v53 : BitVec 32 := Scalar.select v51 v46 v42
  let v60 : BitVec 1 := Scalar.cmpi .slt v57 v53
  let v61 : BitVec 1 := Scalar.andi v59 v60
  let v62 : BitVec 1 := Scalar.ori v58 v61
  let v64 : BitVec 32 := Scalar.select v62 v57 v53
  let v71 : BitVec 1 := Scalar.cmpi .slt v68 v64
  let v72 : BitVec 1 := Scalar.andi v70 v71
  let v73 : BitVec 1 := Scalar.ori v69 v72
  let v75 : BitVec 32 := Scalar.select v73 v68 v64
  let v82 : BitVec 1 := Scalar.cmpi .slt v79 v75
  let v83 : BitVec 1 := Scalar.andi v81 v82
  let v84 : BitVec 1 := Scalar.ori v80 v83
  let v86 : BitVec 32 := Scalar.select v84 v79 v75
  let v93 : BitVec 1 := Scalar.cmpi .slt v90 v86
  let v94 : BitVec 1 := Scalar.andi v92 v93
  let v95 : BitVec 1 := Scalar.ori v91 v94
  let v97 : BitVec 32 := Scalar.select v95 v90 v86
  let v104 : BitVec 1 := Scalar.cmpi .slt v101 v97
  let v105 : BitVec 1 := Scalar.andi v103 v104
  let v106 : BitVec 1 := Scalar.ori v102 v105
  let v108 : BitVec 32 := Scalar.select v106 v101 v97
  let v115 : BitVec 1 := Scalar.cmpi .slt v112 v108
  let v116 : BitVec 1 := Scalar.andi v114 v115
  let v117 : BitVec 1 := Scalar.ori v113 v116
  let v119 : BitVec 32 := Scalar.select v117 v112 v108
  let v126 : BitVec 1 := Scalar.cmpi .slt v123 v119
  let v127 : BitVec 1 := Scalar.andi v125 v126
  let v128 : BitVec 1 := Scalar.ori v124 v127
  let v130 : BitVec 32 := Scalar.select v128 v123 v119
  let v137 : BitVec 1 := Scalar.cmpi .slt v134 v130
  let v138 : BitVec 1 := Scalar.andi v136 v137
  let v139 : BitVec 1 := Scalar.ori v135 v138
  let v141 : BitVec 32 := Scalar.select v139 v134 v130
  let v148 : BitVec 1 := Scalar.cmpi .slt v145 v141
  let v149 : BitVec 1 := Scalar.andi v147 v148
  let v150 : BitVec 1 := Scalar.ori v146 v149
  let v152 : BitVec 32 := Scalar.select v150 v145 v141
  let v159 : BitVec 1 := Scalar.cmpi .slt v156 v152
  let v160 : BitVec 1 := Scalar.andi v158 v159
  let v161 : BitVec 1 := Scalar.ori v157 v160
  let v163 : BitVec 32 := Scalar.select v161 v156 v152
  let v170 : BitVec 1 := Scalar.cmpi .slt v167 v163
  let v171 : BitVec 1 := Scalar.andi v169 v170
  let v172 : BitVec 1 := Scalar.ori v168 v171
  let v174 : BitVec 32 := Scalar.select v172 v167 v163
  let v181 : BitVec 1 := Scalar.cmpi .slt v178 v174
  let v182 : BitVec 1 := Scalar.andi v180 v181
  let v183 : BitVec 1 := Scalar.ori v179 v182
  let v185 : BitVec 32 := Scalar.select v183 v178 v174
  let c0_i32_8 : BitVec 32 := 0#32
  let v187 : BitVec 1 := Scalar.cmpi .sgt v185 c0_i32_8
  let v188 : BitVec 32 := Scalar.extui v187
  let c0_i32_9 : BitVec 32 := 0#32
  let v189 : BitVec 1 := Scalar.cmpi .slt v185 c0_i32_9
  let v190 : BitVec 32 := Scalar.extui v189
  let v191 : BitVec 32 := Scalar.subi v188 v190
  let c8_i32 : BitVec 32 := 8#32
  let c0_i32_10 : BitVec 32 := 0#32
  let v192 : BitVec 1 := Scalar.cmpi .sgt c8_i32 c0_i32_10
  let v193 : BitVec 32 := Scalar.extui v192
  let c0_i32_11 : BitVec 32 := 0#32
  let v194 : BitVec 1 := Scalar.cmpi .slt c8_i32 c0_i32_11
  let v195 : BitVec 32 := Scalar.extui v194
  let v196 : BitVec 32 := Scalar.subi v193 v195
  let v197 : BitVec 1 := Scalar.cmpi .ne v191 v196
  let v198 : BitVec 32 := Scalar.remsi v185 c8_i32
  let c0_i32_12 : BitVec 32 := 0#32
  let v199 : BitVec 1 := Scalar.cmpi .ne v198 c0_i32_12
  let v200 : BitVec 1 := Scalar.andi v197 v199
  let v186 : BitVec 32 := Scalar.divsi v185 c8_i32
  let c1_i32_13 : BitVec 32 := 1#32
  let v201 : BitVec 32 := Scalar.subi v186 c1_i32_13
  let v202 : BitVec 32 := Scalar.select v200 v201 v186
  let c8_i32_14 : BitVec 32 := 8#32
  let v203 : BitVec 32 := Scalar.muli v202 c8_i32_14
  let c99984_i32 : BitVec 32 := 99984#32
  let v204 : BitVec 32 := Scalar.minsi v203 c99984_i32
  let v205 : BitVec 32 := v204
  let v207 : BitVec 32 := Scalar.addi v3 v205
  ![v207.toNat]
def k0_off4 (i : grid0.Coords) (v13 : BitVec 32) (v14 : BitVec 1) (v15 : BitVec 1) (v24 : BitVec 32) (v25 : BitVec 1) (v26 : BitVec 1) (v35 : BitVec 32) (v36 : BitVec 1) (v37 : BitVec 1) (v46 : BitVec 32) (v47 : BitVec 1) (v48 : BitVec 1) (v57 : BitVec 32) (v58 : BitVec 1) (v59 : BitVec 1) (v68 : BitVec 32) (v69 : BitVec 1) (v70 : BitVec 1) (v79 : BitVec 32) (v80 : BitVec 1) (v81 : BitVec 1) (v90 : BitVec 32) (v91 : BitVec 1) (v92 : BitVec 1) (v101 : BitVec 32) (v102 : BitVec 1) (v103 : BitVec 1) (v112 : BitVec 32) (v113 : BitVec 1) (v114 : BitVec 1) (v123 : BitVec 32) (v124 : BitVec 1) (v125 : BitVec 1) (v134 : BitVec 32) (v135 : BitVec 1) (v136 : BitVec 1) (v145 : BitVec 32) (v146 : BitVec 1) (v147 : BitVec 1) (v156 : BitVec 32) (v157 : BitVec 1) (v158 : BitVec 1) (v167 : BitVec 32) (v168 : BitVec 1) (v169 : BitVec 1) (v178 : BitVec 32) (v179 : BitVec 1) (v180 : BitVec 1) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c300000_i32 : BitVec 32 := 300000#32
  let v3 : BitVec 32 := Scalar.muli v1 c300000_i32
  let c100000_i32 : BitVec 32 := 100000#32
  let v4 : BitVec 32 := Scalar.addi v3 c100000_i32
  let c100000_i32_0 : BitVec 32 := 100000#32
  let v5 : BitVec 32 := Scalar.addi v4 c100000_i32_0
  let c100000_i32_5 : BitVec 32 := 100000#32
  let v16 : BitVec 1 := Scalar.cmpi .slt v13 c100000_i32_5
  let v17 : BitVec 1 := Scalar.andi v15 v16
  let v18 : BitVec 1 := Scalar.ori v14 v17
  let c100000_i32_7 : BitVec 32 := 100000#32
  let v20 : BitVec 32 := Scalar.select v18 v13 c100000_i32_7
  let v27 : BitVec 1 := Scalar.cmpi .slt v24 v20
  let v28 : BitVec 1 := Scalar.andi v26 v27
  let v29 : BitVec 1 := Scalar.ori v25 v28
  let v31 : BitVec 32 := Scalar.select v29 v24 v20
  let v38 : BitVec 1 := Scalar.cmpi .slt v35 v31
  let v39 : BitVec 1 := Scalar.andi v37 v38
  let v40 : BitVec 1 := Scalar.ori v36 v39
  let v42 : BitVec 32 := Scalar.select v40 v35 v31
  let v49 : BitVec 1 := Scalar.cmpi .slt v46 v42
  let v50 : BitVec 1 := Scalar.andi v48 v49
  let v51 : BitVec 1 := Scalar.ori v47 v50
  let v53 : BitVec 32 := Scalar.select v51 v46 v42
  let v60 : BitVec 1 := Scalar.cmpi .slt v57 v53
  let v61 : BitVec 1 := Scalar.andi v59 v60
  let v62 : BitVec 1 := Scalar.ori v58 v61
  let v64 : BitVec 32 := Scalar.select v62 v57 v53
  let v71 : BitVec 1 := Scalar.cmpi .slt v68 v64
  let v72 : BitVec 1 := Scalar.andi v70 v71
  let v73 : BitVec 1 := Scalar.ori v69 v72
  let v75 : BitVec 32 := Scalar.select v73 v68 v64
  let v82 : BitVec 1 := Scalar.cmpi .slt v79 v75
  let v83 : BitVec 1 := Scalar.andi v81 v82
  let v84 : BitVec 1 := Scalar.ori v80 v83
  let v86 : BitVec 32 := Scalar.select v84 v79 v75
  let v93 : BitVec 1 := Scalar.cmpi .slt v90 v86
  let v94 : BitVec 1 := Scalar.andi v92 v93
  let v95 : BitVec 1 := Scalar.ori v91 v94
  let v97 : BitVec 32 := Scalar.select v95 v90 v86
  let v104 : BitVec 1 := Scalar.cmpi .slt v101 v97
  let v105 : BitVec 1 := Scalar.andi v103 v104
  let v106 : BitVec 1 := Scalar.ori v102 v105
  let v108 : BitVec 32 := Scalar.select v106 v101 v97
  let v115 : BitVec 1 := Scalar.cmpi .slt v112 v108
  let v116 : BitVec 1 := Scalar.andi v114 v115
  let v117 : BitVec 1 := Scalar.ori v113 v116
  let v119 : BitVec 32 := Scalar.select v117 v112 v108
  let v126 : BitVec 1 := Scalar.cmpi .slt v123 v119
  let v127 : BitVec 1 := Scalar.andi v125 v126
  let v128 : BitVec 1 := Scalar.ori v124 v127
  let v130 : BitVec 32 := Scalar.select v128 v123 v119
  let v137 : BitVec 1 := Scalar.cmpi .slt v134 v130
  let v138 : BitVec 1 := Scalar.andi v136 v137
  let v139 : BitVec 1 := Scalar.ori v135 v138
  let v141 : BitVec 32 := Scalar.select v139 v134 v130
  let v148 : BitVec 1 := Scalar.cmpi .slt v145 v141
  let v149 : BitVec 1 := Scalar.andi v147 v148
  let v150 : BitVec 1 := Scalar.ori v146 v149
  let v152 : BitVec 32 := Scalar.select v150 v145 v141
  let v159 : BitVec 1 := Scalar.cmpi .slt v156 v152
  let v160 : BitVec 1 := Scalar.andi v158 v159
  let v161 : BitVec 1 := Scalar.ori v157 v160
  let v163 : BitVec 32 := Scalar.select v161 v156 v152
  let v170 : BitVec 1 := Scalar.cmpi .slt v167 v163
  let v171 : BitVec 1 := Scalar.andi v169 v170
  let v172 : BitVec 1 := Scalar.ori v168 v171
  let v174 : BitVec 32 := Scalar.select v172 v167 v163
  let v181 : BitVec 1 := Scalar.cmpi .slt v178 v174
  let v182 : BitVec 1 := Scalar.andi v180 v181
  let v183 : BitVec 1 := Scalar.ori v179 v182
  let v185 : BitVec 32 := Scalar.select v183 v178 v174
  let c0_i32_8 : BitVec 32 := 0#32
  let v187 : BitVec 1 := Scalar.cmpi .sgt v185 c0_i32_8
  let v188 : BitVec 32 := Scalar.extui v187
  let c0_i32_9 : BitVec 32 := 0#32
  let v189 : BitVec 1 := Scalar.cmpi .slt v185 c0_i32_9
  let v190 : BitVec 32 := Scalar.extui v189
  let v191 : BitVec 32 := Scalar.subi v188 v190
  let c8_i32 : BitVec 32 := 8#32
  let c0_i32_10 : BitVec 32 := 0#32
  let v192 : BitVec 1 := Scalar.cmpi .sgt c8_i32 c0_i32_10
  let v193 : BitVec 32 := Scalar.extui v192
  let c0_i32_11 : BitVec 32 := 0#32
  let v194 : BitVec 1 := Scalar.cmpi .slt c8_i32 c0_i32_11
  let v195 : BitVec 32 := Scalar.extui v194
  let v196 : BitVec 32 := Scalar.subi v193 v195
  let v197 : BitVec 1 := Scalar.cmpi .ne v191 v196
  let v198 : BitVec 32 := Scalar.remsi v185 c8_i32
  let c0_i32_12 : BitVec 32 := 0#32
  let v199 : BitVec 1 := Scalar.cmpi .ne v198 c0_i32_12
  let v200 : BitVec 1 := Scalar.andi v197 v199
  let v186 : BitVec 32 := Scalar.divsi v185 c8_i32
  let c1_i32_13 : BitVec 32 := 1#32
  let v201 : BitVec 32 := Scalar.subi v186 c1_i32_13
  let v202 : BitVec 32 := Scalar.select v200 v201 v186
  let c8_i32_14 : BitVec 32 := 8#32
  let v203 : BitVec 32 := Scalar.muli v202 c8_i32_14
  let c99984_i32 : BitVec 32 := 99984#32
  let v204 : BitVec 32 := Scalar.minsi v203 c99984_i32
  let v205 : BitVec 32 := v204
  let v208 : BitVec 32 := Scalar.addi v5 v205
  ![v208.toNat]
def k0_off5 (v13 : BitVec 32) (v14 : BitVec 1) (v15 : BitVec 1) (v24 : BitVec 32) (v25 : BitVec 1) (v26 : BitVec 1) (v35 : BitVec 32) (v36 : BitVec 1) (v37 : BitVec 1) (v46 : BitVec 32) (v47 : BitVec 1) (v48 : BitVec 1) (v57 : BitVec 32) (v58 : BitVec 1) (v59 : BitVec 1) (v68 : BitVec 32) (v69 : BitVec 1) (v70 : BitVec 1) (v79 : BitVec 32) (v80 : BitVec 1) (v81 : BitVec 1) (v90 : BitVec 32) (v91 : BitVec 1) (v92 : BitVec 1) (v101 : BitVec 32) (v102 : BitVec 1) (v103 : BitVec 1) (v112 : BitVec 32) (v113 : BitVec 1) (v114 : BitVec 1) (v123 : BitVec 32) (v124 : BitVec 1) (v125 : BitVec 1) (v134 : BitVec 32) (v135 : BitVec 1) (v136 : BitVec 1) (v145 : BitVec 32) (v146 : BitVec 1) (v147 : BitVec 1) (v156 : BitVec 32) (v157 : BitVec 1) (v158 : BitVec 1) (v167 : BitVec 32) (v168 : BitVec 1) (v169 : BitVec 1) (v178 : BitVec 32) (v179 : BitVec 1) (v180 : BitVec 1) : Fin 1 → Nat :=
  let c100000_i32_5 : BitVec 32 := 100000#32
  let v16 : BitVec 1 := Scalar.cmpi .slt v13 c100000_i32_5
  let v17 : BitVec 1 := Scalar.andi v15 v16
  let v18 : BitVec 1 := Scalar.ori v14 v17
  let c100000_i32_7 : BitVec 32 := 100000#32
  let v20 : BitVec 32 := Scalar.select v18 v13 c100000_i32_7
  let v27 : BitVec 1 := Scalar.cmpi .slt v24 v20
  let v28 : BitVec 1 := Scalar.andi v26 v27
  let v29 : BitVec 1 := Scalar.ori v25 v28
  let v31 : BitVec 32 := Scalar.select v29 v24 v20
  let v38 : BitVec 1 := Scalar.cmpi .slt v35 v31
  let v39 : BitVec 1 := Scalar.andi v37 v38
  let v40 : BitVec 1 := Scalar.ori v36 v39
  let v42 : BitVec 32 := Scalar.select v40 v35 v31
  let v49 : BitVec 1 := Scalar.cmpi .slt v46 v42
  let v50 : BitVec 1 := Scalar.andi v48 v49
  let v51 : BitVec 1 := Scalar.ori v47 v50
  let v53 : BitVec 32 := Scalar.select v51 v46 v42
  let v60 : BitVec 1 := Scalar.cmpi .slt v57 v53
  let v61 : BitVec 1 := Scalar.andi v59 v60
  let v62 : BitVec 1 := Scalar.ori v58 v61
  let v64 : BitVec 32 := Scalar.select v62 v57 v53
  let v71 : BitVec 1 := Scalar.cmpi .slt v68 v64
  let v72 : BitVec 1 := Scalar.andi v70 v71
  let v73 : BitVec 1 := Scalar.ori v69 v72
  let v75 : BitVec 32 := Scalar.select v73 v68 v64
  let v82 : BitVec 1 := Scalar.cmpi .slt v79 v75
  let v83 : BitVec 1 := Scalar.andi v81 v82
  let v84 : BitVec 1 := Scalar.ori v80 v83
  let v86 : BitVec 32 := Scalar.select v84 v79 v75
  let v93 : BitVec 1 := Scalar.cmpi .slt v90 v86
  let v94 : BitVec 1 := Scalar.andi v92 v93
  let v95 : BitVec 1 := Scalar.ori v91 v94
  let v97 : BitVec 32 := Scalar.select v95 v90 v86
  let v104 : BitVec 1 := Scalar.cmpi .slt v101 v97
  let v105 : BitVec 1 := Scalar.andi v103 v104
  let v106 : BitVec 1 := Scalar.ori v102 v105
  let v108 : BitVec 32 := Scalar.select v106 v101 v97
  let v115 : BitVec 1 := Scalar.cmpi .slt v112 v108
  let v116 : BitVec 1 := Scalar.andi v114 v115
  let v117 : BitVec 1 := Scalar.ori v113 v116
  let v119 : BitVec 32 := Scalar.select v117 v112 v108
  let v126 : BitVec 1 := Scalar.cmpi .slt v123 v119
  let v127 : BitVec 1 := Scalar.andi v125 v126
  let v128 : BitVec 1 := Scalar.ori v124 v127
  let v130 : BitVec 32 := Scalar.select v128 v123 v119
  let v137 : BitVec 1 := Scalar.cmpi .slt v134 v130
  let v138 : BitVec 1 := Scalar.andi v136 v137
  let v139 : BitVec 1 := Scalar.ori v135 v138
  let v141 : BitVec 32 := Scalar.select v139 v134 v130
  let v148 : BitVec 1 := Scalar.cmpi .slt v145 v141
  let v149 : BitVec 1 := Scalar.andi v147 v148
  let v150 : BitVec 1 := Scalar.ori v146 v149
  let v152 : BitVec 32 := Scalar.select v150 v145 v141
  let v159 : BitVec 1 := Scalar.cmpi .slt v156 v152
  let v160 : BitVec 1 := Scalar.andi v158 v159
  let v161 : BitVec 1 := Scalar.ori v157 v160
  let v163 : BitVec 32 := Scalar.select v161 v156 v152
  let v170 : BitVec 1 := Scalar.cmpi .slt v167 v163
  let v171 : BitVec 1 := Scalar.andi v169 v170
  let v172 : BitVec 1 := Scalar.ori v168 v171
  let v174 : BitVec 32 := Scalar.select v172 v167 v163
  let v181 : BitVec 1 := Scalar.cmpi .slt v178 v174
  let v182 : BitVec 1 := Scalar.andi v180 v181
  let v183 : BitVec 1 := Scalar.ori v179 v182
  let v185 : BitVec 32 := Scalar.select v183 v178 v174
  let c0_i32_8 : BitVec 32 := 0#32
  let v187 : BitVec 1 := Scalar.cmpi .sgt v185 c0_i32_8
  let v188 : BitVec 32 := Scalar.extui v187
  let c0_i32_9 : BitVec 32 := 0#32
  let v189 : BitVec 1 := Scalar.cmpi .slt v185 c0_i32_9
  let v190 : BitVec 32 := Scalar.extui v189
  let v191 : BitVec 32 := Scalar.subi v188 v190
  let c8_i32 : BitVec 32 := 8#32
  let c0_i32_10 : BitVec 32 := 0#32
  let v192 : BitVec 1 := Scalar.cmpi .sgt c8_i32 c0_i32_10
  let v193 : BitVec 32 := Scalar.extui v192
  let c0_i32_11 : BitVec 32 := 0#32
  let v194 : BitVec 1 := Scalar.cmpi .slt c8_i32 c0_i32_11
  let v195 : BitVec 32 := Scalar.extui v194
  let v196 : BitVec 32 := Scalar.subi v193 v195
  let v197 : BitVec 1 := Scalar.cmpi .ne v191 v196
  let v198 : BitVec 32 := Scalar.remsi v185 c8_i32
  let c0_i32_12 : BitVec 32 := 0#32
  let v199 : BitVec 1 := Scalar.cmpi .ne v198 c0_i32_12
  let v200 : BitVec 1 := Scalar.andi v197 v199
  let v186 : BitVec 32 := Scalar.divsi v185 c8_i32
  let c1_i32_13 : BitVec 32 := 1#32
  let v201 : BitVec 32 := Scalar.subi v186 c1_i32_13
  let v202 : BitVec 32 := Scalar.select v200 v201 v186
  let c8_i32_14 : BitVec 32 := 8#32
  let v203 : BitVec 32 := Scalar.muli v202 c8_i32_14
  let c99984_i32 : BitVec 32 := 99984#32
  let v204 : BitVec 32 := Scalar.minsi v203 c99984_i32
  let v205 : BitVec 32 := v204
  let v339 : Index := Scalar.indexCast v205
  ![v339.toNat]

def k0_chk1 (i : grid0.Coords) (v13 : BitVec 32) (v14 : BitVec 1) (v15 : BitVec 1) (v24 : BitVec 32) (v25 : BitVec 1) (v26 : BitVec 1) (v35 : BitVec 32) (v36 : BitVec 1) (v37 : BitVec 1) (v46 : BitVec 32) (v47 : BitVec 1) (v48 : BitVec 1) (v57 : BitVec 32) (v58 : BitVec 1) (v59 : BitVec 1) (v68 : BitVec 32) (v69 : BitVec 1) (v70 : BitVec 1) (v79 : BitVec 32) (v80 : BitVec 1) (v81 : BitVec 1) (v90 : BitVec 32) (v91 : BitVec 1) (v92 : BitVec 1) (v101 : BitVec 32) (v102 : BitVec 1) (v103 : BitVec 1) (v112 : BitVec 32) (v113 : BitVec 1) (v114 : BitVec 1) (v123 : BitVec 32) (v124 : BitVec 1) (v125 : BitVec 1) (v134 : BitVec 32) (v135 : BitVec 1) (v136 : BitVec 1) (v145 : BitVec 32) (v146 : BitVec 1) (v147 : BitVec 1) (v156 : BitVec 32) (v157 : BitVec 1) (v158 : BitVec 1) (v167 : BitVec 32) (v168 : BitVec 1) (v169 : BitVec 1) (v178 : BitVec 32) (v179 : BitVec 1) (v180 : BitVec 1) : Prop :=
  (8 ∣ (k0_mult1 v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180).toNat) ∧
  (∀ a, (k0_off3 i v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180) a + S16.size a ≤ S9600000.size a) ∧
  (∀ a, (k0_off4 i v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180) a + S16.size a ≤ S9600000.size a) ∧
  (∀ a, (k0_off5 v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180) a + S16.size a ≤ S100000.size a)
theorem k0_mult1_dvd : ∀ (i : grid0.Coords) (v13 : BitVec 32) (v14 : BitVec 1) (v15 : BitVec 1) (v24 : BitVec 32) (v25 : BitVec 1) (v26 : BitVec 1) (v35 : BitVec 32) (v36 : BitVec 1) (v37 : BitVec 1) (v46 : BitVec 32) (v47 : BitVec 1) (v48 : BitVec 1) (v57 : BitVec 32) (v58 : BitVec 1) (v59 : BitVec 1) (v68 : BitVec 32) (v69 : BitVec 1) (v70 : BitVec 1) (v79 : BitVec 32) (v80 : BitVec 1) (v81 : BitVec 1) (v90 : BitVec 32) (v91 : BitVec 1) (v92 : BitVec 1) (v101 : BitVec 32) (v102 : BitVec 1) (v103 : BitVec 1) (v112 : BitVec 32) (v113 : BitVec 1) (v114 : BitVec 1) (v123 : BitVec 32) (v124 : BitVec 1) (v125 : BitVec 1) (v134 : BitVec 32) (v135 : BitVec 1) (v136 : BitVec 1) (v145 : BitVec 32) (v146 : BitVec 1) (v147 : BitVec 1) (v156 : BitVec 32) (v157 : BitVec 1) (v158 : BitVec 1) (v167 : BitVec 32) (v168 : BitVec 1) (v169 : BitVec 1) (v178 : BitVec 32) (v179 : BitVec 1) (v180 : BitVec 1) (k0_hw1 : k0_chk1 i v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180), 8 ∣ (k0_mult1 v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180).toNat := fun i v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180 k0_hw1 => k0_hw1.1
theorem k0_off3_inb : ∀ (i : grid0.Coords) (v13 : BitVec 32) (v14 : BitVec 1) (v15 : BitVec 1) (v24 : BitVec 32) (v25 : BitVec 1) (v26 : BitVec 1) (v35 : BitVec 32) (v36 : BitVec 1) (v37 : BitVec 1) (v46 : BitVec 32) (v47 : BitVec 1) (v48 : BitVec 1) (v57 : BitVec 32) (v58 : BitVec 1) (v59 : BitVec 1) (v68 : BitVec 32) (v69 : BitVec 1) (v70 : BitVec 1) (v79 : BitVec 32) (v80 : BitVec 1) (v81 : BitVec 1) (v90 : BitVec 32) (v91 : BitVec 1) (v92 : BitVec 1) (v101 : BitVec 32) (v102 : BitVec 1) (v103 : BitVec 1) (v112 : BitVec 32) (v113 : BitVec 1) (v114 : BitVec 1) (v123 : BitVec 32) (v124 : BitVec 1) (v125 : BitVec 1) (v134 : BitVec 32) (v135 : BitVec 1) (v136 : BitVec 1) (v145 : BitVec 32) (v146 : BitVec 1) (v147 : BitVec 1) (v156 : BitVec 32) (v157 : BitVec 1) (v158 : BitVec 1) (v167 : BitVec 32) (v168 : BitVec 1) (v169 : BitVec 1) (v178 : BitVec 32) (v179 : BitVec 1) (v180 : BitVec 1) (k0_hw1 : k0_chk1 i v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180), ∀ a, (k0_off3 i v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180) a + S16.size a ≤ S9600000.size a := fun i v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180 k0_hw1 => k0_hw1.2.1
theorem k0_off4_inb : ∀ (i : grid0.Coords) (v13 : BitVec 32) (v14 : BitVec 1) (v15 : BitVec 1) (v24 : BitVec 32) (v25 : BitVec 1) (v26 : BitVec 1) (v35 : BitVec 32) (v36 : BitVec 1) (v37 : BitVec 1) (v46 : BitVec 32) (v47 : BitVec 1) (v48 : BitVec 1) (v57 : BitVec 32) (v58 : BitVec 1) (v59 : BitVec 1) (v68 : BitVec 32) (v69 : BitVec 1) (v70 : BitVec 1) (v79 : BitVec 32) (v80 : BitVec 1) (v81 : BitVec 1) (v90 : BitVec 32) (v91 : BitVec 1) (v92 : BitVec 1) (v101 : BitVec 32) (v102 : BitVec 1) (v103 : BitVec 1) (v112 : BitVec 32) (v113 : BitVec 1) (v114 : BitVec 1) (v123 : BitVec 32) (v124 : BitVec 1) (v125 : BitVec 1) (v134 : BitVec 32) (v135 : BitVec 1) (v136 : BitVec 1) (v145 : BitVec 32) (v146 : BitVec 1) (v147 : BitVec 1) (v156 : BitVec 32) (v157 : BitVec 1) (v158 : BitVec 1) (v167 : BitVec 32) (v168 : BitVec 1) (v169 : BitVec 1) (v178 : BitVec 32) (v179 : BitVec 1) (v180 : BitVec 1) (k0_hw1 : k0_chk1 i v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180), ∀ a, (k0_off4 i v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180) a + S16.size a ≤ S9600000.size a := fun i v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180 k0_hw1 => k0_hw1.2.2.1
theorem k0_off5_inb : ∀ (i : grid0.Coords) (v13 : BitVec 32) (v14 : BitVec 1) (v15 : BitVec 1) (v24 : BitVec 32) (v25 : BitVec 1) (v26 : BitVec 1) (v35 : BitVec 32) (v36 : BitVec 1) (v37 : BitVec 1) (v46 : BitVec 32) (v47 : BitVec 1) (v48 : BitVec 1) (v57 : BitVec 32) (v58 : BitVec 1) (v59 : BitVec 1) (v68 : BitVec 32) (v69 : BitVec 1) (v70 : BitVec 1) (v79 : BitVec 32) (v80 : BitVec 1) (v81 : BitVec 1) (v90 : BitVec 32) (v91 : BitVec 1) (v92 : BitVec 1) (v101 : BitVec 32) (v102 : BitVec 1) (v103 : BitVec 1) (v112 : BitVec 32) (v113 : BitVec 1) (v114 : BitVec 1) (v123 : BitVec 32) (v124 : BitVec 1) (v125 : BitVec 1) (v134 : BitVec 32) (v135 : BitVec 1) (v136 : BitVec 1) (v145 : BitVec 32) (v146 : BitVec 1) (v147 : BitVec 1) (v156 : BitVec 32) (v157 : BitVec 1) (v158 : BitVec 1) (v167 : BitVec 32) (v168 : BitVec 1) (v169 : BitVec 1) (v178 : BitVec 32) (v179 : BitVec 1) (v180 : BitVec 1) (k0_hw1 : k0_chk1 i v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180), ∀ a, (k0_off5 v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180) a + S16.size a ≤ S100000.size a := fun i v13 v14 v15 v24 v25 v26 v35 v36 v37 v46 v47 v48 v57 v58 v59 v68 v69 v70 v79 v80 v81 v90 v91 v92 v101 v102 v103 v112 v113 v114 v123 v124 v125 v134 v135 v136 v145 v146 v147 v156 v157 v158 v167 v168 v169 v178 v179 v180 k0_hw1 => k0_hw1.2.2.2

def k0_off6 (i : grid0.Coords) (c0_i32_51 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c300000_i32 : BitVec 32 := 300000#32
  let v3 : BitVec 32 := Scalar.muli v1 c300000_i32
  let v407 : BitVec 32 := Scalar.addi v3 c0_i32_51
  ![v407.toNat]
def k0_off7 (i : grid0.Coords) (c0_i32_52 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c300000_i32 : BitVec 32 := 300000#32
  let v3 : BitVec 32 := Scalar.muli v1 c300000_i32
  let c100000_i32 : BitVec 32 := 100000#32
  let v4 : BitVec 32 := Scalar.addi v3 c100000_i32
  let c100000_i32_0 : BitVec 32 := 100000#32
  let v5 : BitVec 32 := Scalar.addi v4 c100000_i32_0
  let v408 : BitVec 32 := Scalar.addi v5 c0_i32_52
  ![v408.toNat]
@[reducible] def k0_t2_loop : Scf.Loop 32 :=
  let c0_i32_53 : BitVec 32 := 0#32
  let c625_i32 : BitVec 32 := 625#32
  let v409 : BitVec 32 := Scalar.addi c0_i32_53 c625_i32
  let c1_i32_54 : BitVec 32 := 1#32
  ⟨c0_i32_53, v409, c1_i32_54⟩
def k0_off8 (k0_t2 : Fin k0_t2_loop.trips) : Fin 1 → Nat :=
  let c0_i32_53 : BitVec 32 := 0#32
  let c1_i32_54 : BitVec 32 := 1#32
  let arg10 : BitVec 32 := Scf.iv c0_i32_53 c1_i32_54 k0_t2
  let c16_i32 : BitVec 32 := 16#32
  let v635 : BitVec 32 := Scalar.muli arg10 c16_i32
  let v636 : Index := Scalar.indexCast v635
  ![v636.toNat]
def k0_off9 (k0_t2 : Fin k0_t2_loop.trips) : Fin 1 → Nat :=
  let c0_i32_112 : BitVec 32 := 0#32
  let c0_i32_53 : BitVec 32 := 0#32
  let c1_i32_54 : BitVec 32 := 1#32
  let arg10 : BitVec 32 := Scf.iv c0_i32_53 c1_i32_54 k0_t2
  let c16_i32_111 : BitVec 32 := 16#32
  let v643 : BitVec 32 := Scalar.muli arg10 c16_i32_111
  let v644 : BitVec 32 := Scalar.addi c0_i32_112 v643
  let v645 : Index := Scalar.indexCast v644
  ![v645.toNat]
@[reducible] def k0_t3_loop : Scf.Loop 32 :=
  let c0_i32_57 : BitVec 32 := 0#32
  let c625_i32_58 : BitVec 32 := 625#32
  let v413 : BitVec 32 := Scalar.addi c0_i32_57 c625_i32_58
  let c1_i32_59 : BitVec 32 := 1#32
  ⟨c0_i32_57, v413, c1_i32_59⟩
def k0_off10 (k0_t3 : Fin k0_t3_loop.trips) : Fin 1 → Nat :=
  let c0_i32_57 : BitVec 32 := 0#32
  let c1_i32_59 : BitVec 32 := 1#32
  let arg10 : BitVec 32 := Scf.iv c0_i32_57 c1_i32_59 k0_t3
  let c16_i32 : BitVec 32 := 16#32
  let v635 : BitVec 32 := Scalar.muli arg10 c16_i32
  let v636 : Index := Scalar.indexCast v635
  ![v636.toNat]
def k0_off11 (k0_t3 : Fin k0_t3_loop.trips) : Fin 1 → Nat :=
  let c10000_i32_112 : BitVec 32 := 10000#32
  let c0_i32_57 : BitVec 32 := 0#32
  let c1_i32_59 : BitVec 32 := 1#32
  let arg10 : BitVec 32 := Scf.iv c0_i32_57 c1_i32_59 k0_t3
  let c16_i32_111 : BitVec 32 := 16#32
  let v643 : BitVec 32 := Scalar.muli arg10 c16_i32_111
  let v644 : BitVec 32 := Scalar.addi c10000_i32_112 v643
  let v645 : Index := Scalar.indexCast v644
  ![v645.toNat]
@[reducible] def k0_t4_loop : Scf.Loop 32 :=
  let c0_i32_62 : BitVec 32 := 0#32
  let c625_i32_63 : BitVec 32 := 625#32
  let v417 : BitVec 32 := Scalar.addi c0_i32_62 c625_i32_63
  let c1_i32_64 : BitVec 32 := 1#32
  ⟨c0_i32_62, v417, c1_i32_64⟩
def k0_off12 (k0_t4 : Fin k0_t4_loop.trips) : Fin 1 → Nat :=
  let c0_i32_62 : BitVec 32 := 0#32
  let c1_i32_64 : BitVec 32 := 1#32
  let arg10 : BitVec 32 := Scf.iv c0_i32_62 c1_i32_64 k0_t4
  let c16_i32 : BitVec 32 := 16#32
  let v635 : BitVec 32 := Scalar.muli arg10 c16_i32
  let v636 : Index := Scalar.indexCast v635
  ![v636.toNat]
def k0_off13 (k0_t4 : Fin k0_t4_loop.trips) : Fin 1 → Nat :=
  let c20000_i32_112 : BitVec 32 := 20000#32
  let c0_i32_62 : BitVec 32 := 0#32
  let c1_i32_64 : BitVec 32 := 1#32
  let arg10 : BitVec 32 := Scf.iv c0_i32_62 c1_i32_64 k0_t4
  let c16_i32_111 : BitVec 32 := 16#32
  let v643 : BitVec 32 := Scalar.muli arg10 c16_i32_111
  let v644 : BitVec 32 := Scalar.addi c20000_i32_112 v643
  let v645 : Index := Scalar.indexCast v644
  ![v645.toNat]
@[reducible] def k0_t5_loop : Scf.Loop 32 :=
  let c0_i32_67 : BitVec 32 := 0#32
  let c625_i32_68 : BitVec 32 := 625#32
  let v421 : BitVec 32 := Scalar.addi c0_i32_67 c625_i32_68
  let c1_i32_69 : BitVec 32 := 1#32
  ⟨c0_i32_67, v421, c1_i32_69⟩
def k0_off14 (k0_t5 : Fin k0_t5_loop.trips) : Fin 1 → Nat :=
  let c0_i32_67 : BitVec 32 := 0#32
  let c1_i32_69 : BitVec 32 := 1#32
  let arg10 : BitVec 32 := Scf.iv c0_i32_67 c1_i32_69 k0_t5
  let c16_i32 : BitVec 32 := 16#32
  let v635 : BitVec 32 := Scalar.muli arg10 c16_i32
  let v636 : Index := Scalar.indexCast v635
  ![v636.toNat]
def k0_off15 (k0_t5 : Fin k0_t5_loop.trips) : Fin 1 → Nat :=
  let c30000_i32_112 : BitVec 32 := 30000#32
  let c0_i32_67 : BitVec 32 := 0#32
  let c1_i32_69 : BitVec 32 := 1#32
  let arg10 : BitVec 32 := Scf.iv c0_i32_67 c1_i32_69 k0_t5
  let c16_i32_111 : BitVec 32 := 16#32
  let v643 : BitVec 32 := Scalar.muli arg10 c16_i32_111
  let v644 : BitVec 32 := Scalar.addi c30000_i32_112 v643
  let v645 : Index := Scalar.indexCast v644
  ![v645.toNat]
@[reducible] def k0_t6_loop : Scf.Loop 32 :=
  let c0_i32_72 : BitVec 32 := 0#32
  let c625_i32_73 : BitVec 32 := 625#32
  let v425 : BitVec 32 := Scalar.addi c0_i32_72 c625_i32_73
  let c1_i32_74 : BitVec 32 := 1#32
  ⟨c0_i32_72, v425, c1_i32_74⟩
def k0_off16 (k0_t6 : Fin k0_t6_loop.trips) : Fin 1 → Nat :=
  let c0_i32_72 : BitVec 32 := 0#32
  let c1_i32_74 : BitVec 32 := 1#32
  let arg10 : BitVec 32 := Scf.iv c0_i32_72 c1_i32_74 k0_t6
  let c16_i32 : BitVec 32 := 16#32
  let v635 : BitVec 32 := Scalar.muli arg10 c16_i32
  let v636 : Index := Scalar.indexCast v635
  ![v636.toNat]
def k0_off17 (k0_t6 : Fin k0_t6_loop.trips) : Fin 1 → Nat :=
  let c40000_i32_112 : BitVec 32 := 40000#32
  let c0_i32_72 : BitVec 32 := 0#32
  let c1_i32_74 : BitVec 32 := 1#32
  let arg10 : BitVec 32 := Scf.iv c0_i32_72 c1_i32_74 k0_t6
  let c16_i32_111 : BitVec 32 := 16#32
  let v643 : BitVec 32 := Scalar.muli arg10 c16_i32_111
  let v644 : BitVec 32 := Scalar.addi c40000_i32_112 v643
  let v645 : Index := Scalar.indexCast v644
  ![v645.toNat]
@[reducible] def k0_t7_loop : Scf.Loop 32 :=
  let c0_i32_77 : BitVec 32 := 0#32
  let c625_i32_78 : BitVec 32 := 625#32
  let v429 : BitVec 32 := Scalar.addi c0_i32_77 c625_i32_78
  let c1_i32_79 : BitVec 32 := 1#32
  ⟨c0_i32_77, v429, c1_i32_79⟩
def k0_off18 (k0_t7 : Fin k0_t7_loop.trips) : Fin 1 → Nat :=
  let c0_i32_77 : BitVec 32 := 0#32
  let c1_i32_79 : BitVec 32 := 1#32
  let arg10 : BitVec 32 := Scf.iv c0_i32_77 c1_i32_79 k0_t7
  let c16_i32 : BitVec 32 := 16#32
  let v635 : BitVec 32 := Scalar.muli arg10 c16_i32
  let v636 : Index := Scalar.indexCast v635
  ![v636.toNat]
def k0_off19 (k0_t7 : Fin k0_t7_loop.trips) : Fin 1 → Nat :=
  let c50000_i32_112 : BitVec 32 := 50000#32
  let c0_i32_77 : BitVec 32 := 0#32
  let c1_i32_79 : BitVec 32 := 1#32
  let arg10 : BitVec 32 := Scf.iv c0_i32_77 c1_i32_79 k0_t7
  let c16_i32_111 : BitVec 32 := 16#32
  let v643 : BitVec 32 := Scalar.muli arg10 c16_i32_111
  let v644 : BitVec 32 := Scalar.addi c50000_i32_112 v643
  let v645 : Index := Scalar.indexCast v644
  ![v645.toNat]
@[reducible] def k0_t8_loop : Scf.Loop 32 :=
  let c0_i32_82 : BitVec 32 := 0#32
  let c625_i32_83 : BitVec 32 := 625#32
  let v433 : BitVec 32 := Scalar.addi c0_i32_82 c625_i32_83
  let c1_i32_84 : BitVec 32 := 1#32
  ⟨c0_i32_82, v433, c1_i32_84⟩
def k0_off20 (k0_t8 : Fin k0_t8_loop.trips) : Fin 1 → Nat :=
  let c0_i32_82 : BitVec 32 := 0#32
  let c1_i32_84 : BitVec 32 := 1#32
  let arg10 : BitVec 32 := Scf.iv c0_i32_82 c1_i32_84 k0_t8
  let c16_i32 : BitVec 32 := 16#32
  let v635 : BitVec 32 := Scalar.muli arg10 c16_i32
  let v636 : Index := Scalar.indexCast v635
  ![v636.toNat]
def k0_off21 (k0_t8 : Fin k0_t8_loop.trips) : Fin 1 → Nat :=
  let c60000_i32_112 : BitVec 32 := 60000#32
  let c0_i32_82 : BitVec 32 := 0#32
  let c1_i32_84 : BitVec 32 := 1#32
  let arg10 : BitVec 32 := Scf.iv c0_i32_82 c1_i32_84 k0_t8
  let c16_i32_111 : BitVec 32 := 16#32
  let v643 : BitVec 32 := Scalar.muli arg10 c16_i32_111
  let v644 : BitVec 32 := Scalar.addi c60000_i32_112 v643
  let v645 : Index := Scalar.indexCast v644
  ![v645.toNat]
@[reducible] def k0_t9_loop : Scf.Loop 32 :=
  let c0_i32_87 : BitVec 32 := 0#32
  let c625_i32_88 : BitVec 32 := 625#32
  let v437 : BitVec 32 := Scalar.addi c0_i32_87 c625_i32_88
  let c1_i32_89 : BitVec 32 := 1#32
  ⟨c0_i32_87, v437, c1_i32_89⟩
def k0_off22 (k0_t9 : Fin k0_t9_loop.trips) : Fin 1 → Nat :=
  let c0_i32_87 : BitVec 32 := 0#32
  let c1_i32_89 : BitVec 32 := 1#32
  let arg10 : BitVec 32 := Scf.iv c0_i32_87 c1_i32_89 k0_t9
  let c16_i32 : BitVec 32 := 16#32
  let v635 : BitVec 32 := Scalar.muli arg10 c16_i32
  let v636 : Index := Scalar.indexCast v635
  ![v636.toNat]
def k0_off23 (k0_t9 : Fin k0_t9_loop.trips) : Fin 1 → Nat :=
  let c70000_i32_112 : BitVec 32 := 70000#32
  let c0_i32_87 : BitVec 32 := 0#32
  let c1_i32_89 : BitVec 32 := 1#32
  let arg10 : BitVec 32 := Scf.iv c0_i32_87 c1_i32_89 k0_t9
  let c16_i32_111 : BitVec 32 := 16#32
  let v643 : BitVec 32 := Scalar.muli arg10 c16_i32_111
  let v644 : BitVec 32 := Scalar.addi c70000_i32_112 v643
  let v645 : Index := Scalar.indexCast v644
  ![v645.toNat]
@[reducible] def k0_t10_loop : Scf.Loop 32 :=
  let c0_i32_92 : BitVec 32 := 0#32
  let c625_i32_93 : BitVec 32 := 625#32
  let v441 : BitVec 32 := Scalar.addi c0_i32_92 c625_i32_93
  let c1_i32_94 : BitVec 32 := 1#32
  ⟨c0_i32_92, v441, c1_i32_94⟩
def k0_off24 (k0_t10 : Fin k0_t10_loop.trips) : Fin 1 → Nat :=
  let c0_i32_92 : BitVec 32 := 0#32
  let c1_i32_94 : BitVec 32 := 1#32
  let arg10 : BitVec 32 := Scf.iv c0_i32_92 c1_i32_94 k0_t10
  let c16_i32 : BitVec 32 := 16#32
  let v635 : BitVec 32 := Scalar.muli arg10 c16_i32
  let v636 : Index := Scalar.indexCast v635
  ![v636.toNat]
def k0_off25 (k0_t10 : Fin k0_t10_loop.trips) : Fin 1 → Nat :=
  let c80000_i32_112 : BitVec 32 := 80000#32
  let c0_i32_92 : BitVec 32 := 0#32
  let c1_i32_94 : BitVec 32 := 1#32
  let arg10 : BitVec 32 := Scf.iv c0_i32_92 c1_i32_94 k0_t10
  let c16_i32_111 : BitVec 32 := 16#32
  let v643 : BitVec 32 := Scalar.muli arg10 c16_i32_111
  let v644 : BitVec 32 := Scalar.addi c80000_i32_112 v643
  let v645 : Index := Scalar.indexCast v644
  ![v645.toNat]
@[reducible] def k0_t11_loop : Scf.Loop 32 :=
  let c0_i32_97 : BitVec 32 := 0#32
  let c625_i32_98 : BitVec 32 := 625#32
  let v445 : BitVec 32 := Scalar.addi c0_i32_97 c625_i32_98
  let c1_i32_99 : BitVec 32 := 1#32
  ⟨c0_i32_97, v445, c1_i32_99⟩
def k0_off26 (k0_t11 : Fin k0_t11_loop.trips) : Fin 1 → Nat :=
  let c0_i32_97 : BitVec 32 := 0#32
  let c1_i32_99 : BitVec 32 := 1#32
  let arg10 : BitVec 32 := Scf.iv c0_i32_97 c1_i32_99 k0_t11
  let c16_i32 : BitVec 32 := 16#32
  let v635 : BitVec 32 := Scalar.muli arg10 c16_i32
  let v636 : Index := Scalar.indexCast v635
  ![v636.toNat]
def k0_off27 (k0_t11 : Fin k0_t11_loop.trips) : Fin 1 → Nat :=
  let c90000_i32_112 : BitVec 32 := 90000#32
  let c0_i32_97 : BitVec 32 := 0#32
  let c1_i32_99 : BitVec 32 := 1#32
  let arg10 : BitVec 32 := Scf.iv c0_i32_97 c1_i32_99 k0_t11
  let c16_i32_111 : BitVec 32 := 16#32
  let v643 : BitVec 32 := Scalar.muli arg10 c16_i32_111
  let v644 : BitVec 32 := Scalar.addi c90000_i32_112 v643
  let v645 : Index := Scalar.indexCast v644
  ![v645.toNat]
def k0_off28 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_110_r23 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x32x3x100000 : Shape := ⟨4, ![1, 32, 3, 100000]⟩
abbrev S1x32x100000x3 : Shape := ⟨4, ![1, 32, 100000, 3]⟩
abbrev S32x100000x3 : Shape := ⟨3, ![32, 100000, 3]⟩
abbrev S32x100000x1 : Shape := ⟨3, ![32, 100000, 1]⟩
abbrev S32x100000 : Shape := ⟨2, ![32, 100000]⟩
abbrev S_ : Shape := ⟨0, ![]⟩
abbrev S32 : Shape := ⟨1, ![32]⟩
abbrev S32x1 : Shape := ⟨2, ![32, 1]⟩
abbrev S32x2 : Shape := ⟨2, ![32, 2]⟩
abbrev S32x3 : Shape := ⟨2, ![32, 3]⟩
abbrev S32x1x3 : Shape := ⟨3, ![32, 1, 3]⟩

abbrev nBuf : Space → Nat
  | .hbm => 47
  | .vmem => 0
  | .smem => 0
  | _ => 0

abbrev bufTy : (tb : Table) → Fin (tcTables nBuf tb) → BufTy
  | .hbm, ⟨0, _⟩ => ⟨S1x32x3x100000, .f32⟩
  | .hbm, ⟨1, _⟩ => ⟨S1x32x100000x3, .f32⟩
  | .hbm, ⟨2, _⟩ => ⟨S32x100000x3, .f32⟩
  | .hbm, ⟨3, _⟩ => ⟨S32x100000x1, .f32⟩
  | .hbm, ⟨4, _⟩ => ⟨S32x100000, .f32⟩
  | .hbm, ⟨5, _⟩ => ⟨S32x100000, .i32⟩
  | .hbm, ⟨6, _⟩ => ⟨S_, .f32⟩
  | .hbm, ⟨7, _⟩ => ⟨S_, .i32⟩
  | .hbm, ⟨8, _⟩ => ⟨S32, .f32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i1⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S32, .i32⟩
  | .hbm, ⟨25, _⟩ => ⟨S32x1, .i32⟩
  | .hbm, ⟨26, _⟩ => ⟨S32x1, .i32⟩
  | .hbm, ⟨27, _⟩ => ⟨S32x2, .i32⟩
  | .hbm, ⟨28, _⟩ => ⟨S32x3, .f32⟩
  | .hbm, ⟨29, _⟩ => ⟨S32x1x3, .f32⟩
  | .hbm, ⟨30, _⟩ => ⟨S32x100000x3, .f32⟩
  | .hbm, ⟨31, _⟩ => ⟨S32x100000x3, .f32⟩
  | .hbm, ⟨32, _⟩ => ⟨S32x100000x3, .f32⟩
  | .hbm, ⟨33, _⟩ => ⟨S_, .f32⟩
  | .hbm, ⟨34, _⟩ => ⟨S32x100000, .f32⟩
  | .hbm, ⟨35, _⟩ => ⟨S_, .f32⟩
  | .hbm, ⟨36, _⟩ => ⟨S32x100000, .f32⟩
  | .hbm, ⟨37, _⟩ => ⟨S32x100000, .i1⟩
  | .hbm, ⟨38, _⟩ => ⟨S32x100000, .f32⟩
  | .hbm, ⟨39, _⟩ => ⟨S32x100000, .i32⟩
  | .hbm, ⟨40, _⟩ => ⟨S_, .f32⟩
  | .hbm, ⟨41, _⟩ => ⟨S_, .i32⟩
  | .hbm, ⟨42, _⟩ => ⟨S32, .f32⟩
  | .hbm, ⟨43, _⟩ => ⟨S32, .i32⟩
  | .hbm, ⟨44, _⟩ => ⟨S32x1, .i32⟩
  | .hbm, ⟨45, _⟩ => ⟨S32x1, .i32⟩
  | .hbm, ⟨46, _⟩ => ⟨S32x2, .i32⟩
  | _, _ => ⟨S1x32x3x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_cst : Ref sig .tc := ⟨.hbm, 6, rfl⟩
abbrev main_call0_c : Ref sig .tc := ⟨.hbm, 7, rfl⟩
abbrev main_call0_v1_0 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call2_v0 : Ref sig .tc := ⟨.hbm, 39, rfl⟩
abbrev main_call2_cst : Ref sig .tc := ⟨.hbm, 40, rfl⟩
abbrev main_call2_c : Ref sig .tc := ⟨.hbm, 41, rfl⟩
abbrev main_call2_v1_0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Proof.Fps.Scan.lean ====
/- The kernel's own functions, over any float values: the running maximum that each lane keeps, the fold
   over the lanes that ends a pass, and the lane that is picked from a window. -/
module

public import proofs.«01_k».proof.Proof.Gen.KernelIdeal
public import proofs.«01_k».proof.Proof.Gen.KernelIdeal.Skeleton
public import Idealize.ShloMosaic.Lib.Pointwise

@[expose] public section

noncomputable section

namespace Cert.KernelIdeal.Fps

open Cert.KernelIdeal Idealize.ShloMosaic Idealize.SL.Sem

variable {F : FTy → Type} [FloatOps F]

/-- Lane `l` of a vector of sixteen. -/
def lane (l : Nat) : S16.Idx := ix1 ⟨l % 16, Nat.mod_lt _ (by decide)⟩

/-- Word `p` of the flat array of all coordinates. -/
def flat (p : Nat) : S9600000.Idx := ix1 ⟨p % 9600000, Nat.mod_lt _ (by decide)⟩

/-- Coordinate `a` of point `n` of cloud `b`. -/
def coord (x : S9600000.Idx → F .f32) (b a n : Nat) : F .f32 := x (flat (300000 * b + 100000 * a + n))

/-- Sixteen consecutive values from position `p` on. -/
def lanes (f : Nat → F .f32) (p : Nat) : FVec F S16 .f32 := fun l => f (p + (l 0).val)

/-- The sixteen positions of trip `t`, as words. -/
def pos (p : Nat) : IVec S16 32 := fun l => BitVec.ofNat 32 (p + (l 0).val)

/-- One trip's update of the lanes' largest values and of where they were met. -/
def update (v : FVec F S16 .f32) (i : IVec S16 32) (s : FVec F S16 .f32 × IVec S16 32) : FVec F S16 .f32 × IVec S16 32 :=
  (select (cmpf .ogt v s.1) v s.1, select (cmpf .ogt v s.1) i s.2)

/-- The lanes' state after `t` trips over `f`. -/
def scan (f : Nat → F .f32) : Nat → FVec F S16 .f32 × IVec S16 32
  | 0 => (broadcast S16 (Scalar.ofBits .f32 0xD01502F9#32), broadcast S16 0#32)
  | t + 1 => update (lanes f (16 * t)) (pos (16 * t)) (scan f t)

/-- Whether the fold over the lanes takes a lane with value `v` and word `i`. -/
def takes (s : F .f32 × BitVec 32) (v : F .f32) (i : BitVec 32) : BitVec 1 :=
  Scalar.ori (Scalar.cmpf .ogt v s.1) (Scalar.andi (Scalar.cmpf .oeq v s.1) (Scalar.cmpi .slt i s.2))

/-- The fold over the first `l` lanes. -/
def fin (v : FVec F S16 .f32) (i : IVec S16 32) : Nat → F .f32 × BitVec 32
  | 0 => (Scalar.ofBits .f32 0xD01502F9#32, 100000#32)
  | l + 1 => (Scalar.select (takes (fin v i l) (v (lane l)) (i (lane l))) (v (lane l)) (fin v i l).1,
      Scalar.select (takes (fin v i l) (v (lane l)) (i (lane l))) (i (lane l)) (fin v i l).2)

/-- The fold's value starts at the float word of -10¹⁰. -/
theorem fin_zero_fst (v : FVec F S16 .f32) (i : IVec S16 32) : Scalar.ofBits .f32 0xD01502F9#32 = (fin v i 0).1 := rfl

/-- One lane more of the fold: its value, as the kernel computes it. -/
theorem fin_succ_fst (v : FVec F S16 .f32) (i : IVec S16 32) (l : Nat) :
    Scalar.select (Scalar.ori (Scalar.cmpf .ogt (v (lane l)) (fin v i l).1)
      (Scalar.andi (Scalar.cmpf .oeq (v (lane l)) (fin v i l).1) (Scalar.cmpi .slt (i (lane l)) (fin v i l).2)))
      (v (lane l)) (fin v i l).1 = (fin v i (l + 1)).1 := rfl

/-- One lane more of the fold: its index, as the kernel computes it. -/
theorem fin_succ_snd (v : FVec F S16 .f32) (i : IVec S16 32) (l : Nat) :
    Scalar.select (Scalar.ori (Scalar.cmpf .ogt (v (lane l)) (fin v i l).1)
      (Scalar.andi (Scalar.cmpf .oeq (v (lane l)) (fin v i l).1) (Scalar.cmpi .slt (i (lane l)) (fin v i l).2)))
      (i (lane l)) (fin v i l).2 = (fin v i (l + 1)).2 := rfl

/-- The lane of a window that a word names; the first where it names none. -/
def pick (v : FVec F S16 .f32) (k : BitVec 32) : Nat → F .f32
  | 0 => v (lane 0)
  | l + 1 => Scalar.select (Scalar.cmpi .eq k (BitVec.ofNat 32 (l + 1))) (v (lane (l + 1))) (pick v k l)

/-- The index of a pass's first maximum, as the kernel finds it. -/
def best (f : Nat → F .f32) : BitVec 32 := (fin (scan f 6250).1 (scan f 6250).2 16).2

/-- Where the window around point `w` begins. -/
def base (w : BitVec 32) : Nat := min (8 * (w.toNat / 8)) 99984

/-- The coordinate `a` of the point `w`, as the kernel reads it from the window. -/
def centre (x : S9600000.Idx → F .f32) (b a : Nat) (w : BitVec 32) : F .f32 :=
  pick (lanes (coord x b a) (base w)) (Scalar.subi w (BitVec.ofNat 32 (base w))) 15

/-- The capped squared distance of point `n` from the point `w`. -/
def dist (x : S9600000.Idx → F .f32) (b : Nat) (w : BitVec 32) (n : Nat) : F .f32 :=
  FloatOps.minimumf (FloatOps.addf (FloatOps.addf
      (FloatOps.mulf (FloatOps.subf (coord x b 0 n) (centre x b 0 w)) (FloatOps.subf (coord x b 0 n) (centre x b 0 w)))
      (FloatOps.mulf (FloatOps.subf (coord x b 1 n) (centre x b 1 w)) (FloatOps.subf (coord x b 1 n) (centre x b 1 w))))
      (FloatOps.mulf (FloatOps.subf (coord x b 2 n) (centre x b 2 w)) (FloatOps.subf (coord x b 2 n) (centre x b 2 w))))
    (Scalar.ofBits .f32 0x501502F9#32)

/-- The first and the second sample of cloud `b`. -/
def first (x : S9600000.Idx → F .f32) (b : Nat) : BitVec 32 := best (coord x b 1)
def second (x : S9600000.Idx → F .f32) (b : Nat) : BitVec 32 := best (dist x b (first x b))

/-- The row that the kernel writes out for cloud `b`. -/
def row (x : S9600000.Idx → F .f32) (b : Nat) (l : Nat) : BitVec 32 :=
  if l = 0 then first x b else if l = 1 then second x b else 0#32

/-! ## Words stay small -/

/-- A lane's word is below 100000. -/
theorem scan_lt (f : Nat → F .f32) (t : Nat) (ht : t ≤ 6250) (l : S16.Idx) : ((scan f t).2 l).toNat < 100000 := by
  induction t with
  | zero => show (0#32).toNat < _; decide
  | succ t ih =>
    have hl : (l 0).val < 16 := (l 0).isLt
    show (Scalar.select _ (pos (16 * t) l) ((scan f t).2 l)).toNat < _
    unfold Scalar.select
    split
    · show (BitVec.ofNat 32 (16 * t + (l 0).val)).toNat < _
      rw [BitVec.toNat_ofNat, Nat.mod_eq_of_lt (by omega)]; omega
    · exact ih (by omega)

/-- The fold's word is at most 100000. -/
theorem fin_le (v : FVec F S16 .f32) (i : IVec S16 32) (hi : ∀ l, (i l).toNat < 100000) (l : Nat) : (fin v i l).2.toNat ≤ 100000 := by
  induction l with
  | zero => show (100000#32).toNat ≤ _; decide
  | succ l ih =>
    show (Scalar.select _ (i (lane l)) (fin v i l).2).toNat ≤ _
    unfold Scalar.select
    split
    · exact (hi _).le
    · exact ih

/-- The index that a pass finds is at most 100000. -/
theorem best_le (f : Nat → F .f32) : (best f).toNat ≤ 100000 := fin_le _ _ (scan_lt f 6250 (le_refl _)) 16

/-! ## The kernel's payloads in these terms -/

/-- Cutting lane `l` out of a vector and reading it is reading lane `l`. -/
theorem extract (l : Nat) (hl : l < 16) {α : Type} (v : S16.Idx → α) (h : S16.Slices ![l] S1) (hp : ∀ a, (![0] : Fin 1 → Nat) a < S1.size a) :
    extractAt ![0] (extractStridedSlice S1 ![l] v h) hp = v (lane l) := by
  show v _ = v _
  congr 1
  funext a
  match a with
  | ⟨0, _⟩ =>
    apply Fin.ext
    simp [lane, Nat.mod_eq_of_lt hl, ix1]

end Cert.KernelIdeal.Fps
-- ==== Proof.Fps.Words.lean ====
/- The kernel's finishing steps: the parts of its body that move no data, as the fold over the lanes. -/
module

public import proofs.«01_k».proof.Proof.Fps.Scan

@[expose] public section

set_option maxRecDepth 65536

noncomputable section

namespace Cert.KernelIdeal.Fps

open Cert.KernelIdeal Cert.KernelIdeal.Gen Idealize.ShloMosaic Idealize.SL.Sem

variable {F : FTy → Type} [FloatOps F]

/-- Whether lane `l`'s value is above the fold's over the lanes before it. -/
def above (v : FVec F S16 .f32) (w : IVec S16 32) (l : Nat) : BitVec 1 := Scalar.cmpf .ogt (v (lane l)) (fin v w l).1

/-- Whether lane `l`'s value equals the fold's over the lanes before it. -/
def equal (v : FVec F S16 .f32) (w : IVec S16 32) (l : Nat) : BitVec 1 := Scalar.cmpf .oeq (v (lane l)) (fin v w l).1

/-- The first lane of the fold: its value, as the kernel computes it. -/
theorem fin_one_fst (v : FVec F S16 .f32) (w : IVec S16 32) :
    Scalar.select (Scalar.ori (Scalar.cmpf .ogt (v (lane 0)) (Scalar.ofBits .f32 0xD01502F9#32))
      (Scalar.andi (Scalar.cmpf .oeq (v (lane 0)) (Scalar.ofBits .f32 0xD01502F9#32)) (Scalar.cmpi .slt (w (lane 0)) 100000#32)))
      (v (lane 0)) (Scalar.ofBits .f32 0xD01502F9#32) = (fin v w 1).1 := rfl

/-- The first lane of the fold: its index, as the kernel computes it. -/
theorem fin_one_snd (v : FVec F S16 .f32) (w : IVec S16 32) :
    Scalar.select (Scalar.ori (Scalar.cmpf .ogt (v (lane 0)) (Scalar.ofBits .f32 0xD01502F9#32))
      (Scalar.andi (Scalar.cmpf .oeq (v (lane 0)) (Scalar.ofBits .f32 0xD01502F9#32)) (Scalar.cmpi .slt (w (lane 0)) 100000#32)))
      (w (lane 0)) 100000#32 = (fin v w 1).2 := rfl

/-- The first lane of the fold: its index, with the start's value named by the fold. -/
theorem fin_start_snd (v : FVec F S16 .f32) (w : IVec S16 32) :
    Scalar.select (Scalar.ori (Scalar.cmpf .ogt (v (lane 0)) (fin v w 0).1)
      (Scalar.andi (Scalar.cmpf .oeq (v (lane 0)) (fin v w 0).1) (Scalar.cmpi .slt (w (lane 0)) 100000#32)))
      (w (lane 0)) 100000#32 = (fin v w 1).2 := rfl

/-- The kernel's cut of lane 0 is lane 0. -/
theorem cut0 {α : Type} (v : S16.Idx → α) (h : S16.Slices ![0] S1) (hp : ∀ a, (![0] : Fin 1 → Nat) a < S1.size a) : extractAt ![0] (extractStridedSlice S1 ![0] v h) hp = v (lane 0) :=
  extract 0 (by decide) v h hp
/-- The kernel's cut of lane 1 is lane 1. -/
theorem cut1 {α : Type} (v : S16.Idx → α) (h : S16.Slices ![1] S1) (hp : ∀ a, (![0] : Fin 1 → Nat) a < S1.size a) : extractAt ![0] (extractStridedSlice S1 ![1] v h) hp = v (lane 1) :=
  extract 1 (by decide) v h hp
/-- The kernel's cut of lane 2 is lane 2. -/
theorem cut2 {α : Type} (v : S16.Idx → α) (h : S16.Slices ![2] S1) (hp : ∀ a, (![0] : Fin 1 → Nat) a < S1.size a) : extractAt ![0] (extractStridedSlice S1 ![2] v h) hp = v (lane 2) :=
  extract 2 (by decide) v h hp
/-- The kernel's cut of lane 3 is lane 3. -/
theorem cut3 {α : Type} (v : S16.Idx → α) (h : S16.Slices ![3] S1) (hp : ∀ a, (![0] : Fin 1 → Nat) a < S1.size a) : extractAt ![0] (extractStridedSlice S1 ![3] v h) hp = v (lane 3) :=
  extract 3 (by decide) v h hp
/-- The kernel's cut of lane 4 is lane 4. -/
theorem cut4 {α : Type} (v : S16.Idx → α) (h : S16.Slices ![4] S1) (hp : ∀ a, (![0] : Fin 1 → Nat) a < S1.size a) : extractAt ![0] (extractStridedSlice S1 ![4] v h) hp = v (lane 4) :=
  extract 4 (by decide) v h hp
/-- The kernel's cut of lane 5 is lane 5. -/
theorem cut5 {α : Type} (v : S16.Idx → α) (h : S16.Slices ![5] S1) (hp : ∀ a, (![0] : Fin 1 → Nat) a < S1.size a) : extractAt ![0] (extractStridedSlice S1 ![5] v h) hp = v (lane 5) :=
  extract 5 (by decide) v h hp
/-- The kernel's cut of lane 6 is lane 6. -/
theorem cut6 {α : Type} (v : S16.Idx → α) (h : S16.Slices ![6] S1) (hp : ∀ a, (![0] : Fin 1 → Nat) a < S1.size a) : extractAt ![0] (extractStridedSlice S1 ![6] v h) hp = v (lane 6) :=
  extract 6 (by decide) v h hp
/-- The kernel's cut of lane 7 is lane 7. -/
theorem cut7 {α : Type} (v : S16.Idx → α) (h : S16.Slices ![7] S1) (hp : ∀ a, (![0] : Fin 1 → Nat) a < S1.size a) : extractAt ![0] (extractStridedSlice S1 ![7] v h) hp = v (lane 7) :=
  extract 7 (by decide) v h hp
/-- The kernel's cut of lane 8 is lane 8. -/
theorem cut8 {α : Type} (v : S16.Idx → α) (h : S16.Slices ![8] S1) (hp : ∀ a, (![0] : Fin 1 → Nat) a < S1.size a) : extractAt ![0] (extractStridedSlice S1 ![8] v h) hp = v (lane 8) :=
  extract 8 (by decide) v h hp
/-- The kernel's cut of lane 9 is lane 9. -/
theorem cut9 {α : Type} (v : S16.Idx → α) (h : S16.Slices ![9] S1) (hp : ∀ a, (![0] : Fin 1 → Nat) a < S1.size a) : extractAt ![0] (extractStridedSlice S1 ![9] v h) hp = v (lane 9) :=
  extract 9 (by decide) v h hp
/-- The kernel's cut of lane 10 is lane 10. -/
theorem cut10 {α : Type} (v : S16.Idx → α) (h : S16.Slices ![10] S1) (hp : ∀ a, (![0] : Fin 1 → Nat) a < S1.size a) : extractAt ![0] (extractStridedSlice S1 ![10] v h) hp = v (lane 10) :=
  extract 10 (by decide) v h hp
/-- The kernel's cut of lane 11 is lane 11. -/
theorem cut11 {α : Type} (v : S16.Idx → α) (h : S16.Slices ![11] S1) (hp : ∀ a, (![0] : Fin 1 → Nat) a < S1.size a) : extractAt ![0] (extractStridedSlice S1 ![11] v h) hp = v (lane 11) :=
  extract 11 (by decide) v h hp
/-- The kernel's cut of lane 12 is lane 12. -/
theorem cut12 {α : Type} (v : S16.Idx → α) (h : S16.Slices ![12] S1) (hp : ∀ a, (![0] : Fin 1 → Nat) a < S1.size a) : extractAt ![0] (extractStridedSlice S1 ![12] v h) hp = v (lane 12) :=
  extract 12 (by decide) v h hp
/-- The kernel's cut of lane 13 is lane 13. -/
theorem cut13 {α : Type} (v : S16.Idx → α) (h : S16.Slices ![13] S1) (hp : ∀ a, (![0] : Fin 1 → Nat) a < S1.size a) : extractAt ![0] (extractStridedSlice S1 ![13] v h) hp = v (lane 13) :=
  extract 13 (by decide) v h hp
/-- The kernel's cut of lane 14 is lane 14. -/
theorem cut14 {α : Type} (v : S16.Idx → α) (h : S16.Slices ![14] S1) (hp : ∀ a, (![0] : Fin 1 → Nat) a < S1.size a) : extractAt ![0] (extractStridedSlice S1 ![14] v h) hp = v (lane 14) :=
  extract 14 (by decide) v h hp
/-- The kernel's cut of lane 15 is lane 15. -/
theorem cut15 {α : Type} (v : S16.Idx → α) (h : S16.Slices ![15] S1) (hp : ∀ a, (![0] : Fin 1 → Nat) a < S1.size a) : extractAt ![0] (extractStridedSlice S1 ![15] v h) hp = v (lane 15) :=
  extract 15 (by decide) v h hp

variable (i : grid0.Coords) (arg2 : Memref sig .scVector .hbm S9600000 .f32) (harg2 : arg2.IsWhole) (arg3 : Memref sig .scVector .hbm S32x16 .i32) (harg3 : arg3.IsWhole) (arg4 : Memref sig .scVector .vmem S100000 .f32) (harg4 : arg4.IsWhole) (arg5 : Memref sig .scVector .vmem S10000 .f32) (harg5 : arg5.IsWhole) (arg6 : Memref sig .scVector .vmem S10000 .f32) (harg6 : arg6.IsWhole)
  (arg7 : Memref sig .scVector .vmem S16 .f32) (harg7 : arg7.IsWhole) (arg8 : Memref sig .scVector .vmem S16 .f32) (harg8 : arg8.IsWhole) (arg9 : Memref sig .scVector .vmem S16 .i32) (harg9 : arg9.IsWhole)
  (v635_r0 v635_r1 v635_r2 v635_r3 v635_r4 v635_r5 v635_r6 v635_r7 v635_r8 v635_r9 v635_r10 v635_r11 v635_r12 v635_r13 v635_r14 v635_r15 v635_r16 v635_r17 v635_r18 v635_r19 v635_r20 v635_r21 v635_r22 v635_r23 : DmaSems sig S_)
  (v : FVec F S16 .f32) (w : IVec S16 32)

/-- Part 2 of the body continues the fold over the lanes. -/
theorem part2 : k0_part2 (F := F) i arg2 harg2 arg3 harg3 arg4 harg4 arg5 harg5 arg6 harg6 arg7 harg7 arg8 harg8 arg9 harg9 v635_r0 v635_r1 v635_r2 v635_r3 v635_r4 v635_r5 v635_r6 v635_r7 v635_r8 v635_r9 v635_r10 v635_r11 v635_r12 v635_r13 v635_r14 v635_r15 v635_r16 v635_r17 v635_r18 v635_r19 v635_r20 v635_r21 v635_r22 v635_r23 v w (fin v w 2).1 (fin v w 2).2 (v (lane 2)) (w (lane 2)) (above v w 2)
    = pure ⟨(equal v w 2), (w (lane 3)), (above v w 3), (equal v w 3), (w (lane 4)), (above v w 4), (equal v w 4), (w (lane 5)), (above v w 5), (equal v w 5), (w (lane 6)), (above v w 6), (equal v w 6), (fin v w 7).2, (w (lane 7)), (above v w 7), (equal v w 7), (takes (fin v w 7) (v (lane 7)) (w (lane 7))), (fin v w 8).1⟩ := by
  unfold k0_part2
  simp only [cut0, cut1, cut2, cut3, cut4, cut5, cut6, cut7, cut8, cut9, cut10, cut11, cut12, cut13, cut14, cut15, fin_one_fst, fin_one_snd, fin_succ_fst, fin_succ_snd, Nat.reduceAdd, above, equal, takes]

/-- Part 3 of the body continues the fold over the lanes. -/
theorem part3 : k0_part3 (F := F) i arg2 harg2 arg3 harg3 arg4 harg4 arg5 harg5 arg6 harg6 arg7 harg7 arg8 harg8 arg9 harg9 v635_r0 v635_r1 v635_r2 v635_r3 v635_r4 v635_r5 v635_r6 v635_r7 v635_r8 v635_r9 v635_r10 v635_r11 v635_r12 v635_r13 v635_r14 v635_r15 v635_r16 v635_r17 v635_r18 v635_r19 v635_r20 v635_r21 v635_r22 v635_r23 v w (fin v w 7).2 (w (lane 7)) (takes (fin v w 7) (v (lane 7)) (w (lane 7))) (fin v w 8).1
    = pure ⟨(w (lane 8)), (above v w 8), (equal v w 8), (w (lane 9)), (above v w 9), (equal v w 9), (w (lane 10)), (above v w 10), (equal v w 10), (w (lane 11)), (above v w 11), (equal v w 11), (w (lane 12)), (above v w 12), (equal v w 12), (fin v w 13).1, (fin v w 13).2, (v (lane 13)), (w (lane 13))⟩ := by
  unfold k0_part3
  simp only [cut0, cut1, cut2, cut3, cut4, cut5, cut6, cut7, cut8, cut9, cut10, cut11, cut12, cut13, cut14, cut15, fin_one_fst, fin_one_snd, fin_succ_fst, fin_succ_snd, Nat.reduceAdd, above, equal, takes]

/-- Part 13 of the body continues the fold over the lanes. -/
theorem part13 : k0_part13 (F := F) i arg2 harg2 arg3 harg3 arg4 harg4 arg5 harg5 arg6 harg6 arg7 harg7 arg8 harg8 arg9 harg9 v635_r0 v635_r1 v635_r2 v635_r3 v635_r4 v635_r5 v635_r6 v635_r7 v635_r8 v635_r9 v635_r10 v635_r11 v635_r12 v635_r13 v635_r14 v635_r15 v635_r16 v635_r17 v635_r18 v635_r19 v635_r20 v635_r21 v635_r22 v635_r23 v w
    = pure ⟨(fin v w 4).2, (w (lane 4)), (takes (fin v w 4) (v (lane 4)) (w (lane 4))), (fin v w 5).1⟩ := by
  unfold k0_part13
  simp only [cut0, cut1, cut2, cut3, cut4, cut5, cut6, cut7, cut8, cut9, cut10, cut11, cut12, cut13, cut14, cut15, fin_one_fst, fin_one_snd, fin_succ_fst, fin_succ_snd, Nat.reduceAdd, above, equal, takes]

/-- Part 14 of the body continues the fold over the lanes. -/
theorem part14 : k0_part14 (F := F) i arg2 harg2 arg3 harg3 arg4 harg4 arg5 harg5 arg6 harg6 arg7 harg7 arg8 harg8 arg9 harg9 v635_r0 v635_r1 v635_r2 v635_r3 v635_r4 v635_r5 v635_r6 v635_r7 v635_r8 v635_r9 v635_r10 v635_r11 v635_r12 v635_r13 v635_r14 v635_r15 v635_r16 v635_r17 v635_r18 v635_r19 v635_r20 v635_r21 v635_r22 v635_r23 v w (fin v w 4).2 (w (lane 4)) (takes (fin v w 4) (v (lane 4)) (w (lane 4))) (fin v w 5).1
    = pure ⟨(fin v w 10).1, (fin v w 10).2, (v (lane 10)), (w (lane 10))⟩ := by
  unfold k0_part14
  simp only [cut0, cut1, cut2, cut3, cut4, cut5, cut6, cut7, cut8, cut9, cut10, cut11, cut12, cut13, cut14, cut15, fin_one_fst, fin_one_snd, fin_succ_fst, fin_succ_snd, Nat.reduceAdd, above, equal, takes]

/-- Part 15 of the body continues the fold over the lanes. -/
theorem part15 : k0_part15 (F := F) i arg2 harg2 arg3 harg3 arg4 harg4 arg5 harg5 arg6 harg6 arg7 harg7 arg8 harg8 arg9 harg9 v635_r0 v635_r1 v635_r2 v635_r3 v635_r4 v635_r5 v635_r6 v635_r7 v635_r8 v635_r9 v635_r10 v635_r11 v635_r12 v635_r13 v635_r14 v635_r15 v635_r16 v635_r17 v635_r18 v635_r19 v635_r20 v635_r21 v635_r22 v635_r23 v w (fin v w 10).1 (fin v w 10).2 (v (lane 10)) (w (lane 10))
    = pure ⟨(fin v w 15).1, (fin v w 15).2, (v (lane 15)), (w (lane 15)), (takes (fin v w 15) (v (lane 15)) (w (lane 15)))⟩ := by
  unfold k0_part15
  simp only [cut0, cut1, cut2, cut3, cut4, cut5, cut6, cut7, cut8, cut9, cut10, cut11, cut12, cut13, cut14, cut15, fin_one_fst, fin_one_snd, fin_succ_fst, fin_succ_snd, Nat.reduceAdd, above, equal, takes]

end Cert.KernelIdeal.Fps
-- ==== Proof.Fps.Window.lean ====
/- Where the kernel's window around the first sample begins: the word that the kernel computes, and the
   side condition on the window's copies. -/
module

public import proofs.«01_k».proof.Proof.Fps.Words

@[expose] public section

set_option maxRecDepth 65536

noncomputable section

namespace Cert.KernelIdeal.Fps

open Cert.KernelIdeal Cert.KernelIdeal.Gen Idealize.ShloMosaic Idealize.SL.Sem

variable {F : FTy → Type} [FloatOps F]

/-- The window's first word, as the kernel computes it: the point's index rounded down to a multiple of
    eight, and at most 99984. -/
def baseWord (x : BitVec 32) : BitVec 32 :=
  Scalar.minsi (Scalar.muli (Scalar.select
    (Scalar.andi (Scalar.cmpi .ne (Scalar.subi (Scalar.extui (Scalar.cmpi .sgt x 0#32)) (Scalar.extui (Scalar.cmpi .slt x 0#32)))
        (Scalar.subi (Scalar.extui (Scalar.cmpi .sgt 8#32 0#32)) (Scalar.extui (Scalar.cmpi .slt 8#32 0#32))))
      (Scalar.cmpi .ne (Scalar.remsi x 8#32) 0#32))
    (Scalar.subi (Scalar.divsi x 8#32) 1#32) (Scalar.divsi x 8#32)) 8#32) 99984#32

/-- A signed comparison of small words is that of the numbers. -/
theorem slt_iff (x y : BitVec 32) (hx : x.toNat < 2147483648) (hy : y.toNat < 2147483648) : x.slt y = decide (x.toNat < y.toNat) := by
  rw [BitVec.slt_eq_decide, BitVec.toInt_eq_toNat_of_lt (by omega), BitVec.toInt_eq_toNat_of_lt (by omega)]
  simp

/-- The window's first word, as the kernel computes it, is the number `base`. -/
theorem baseWord_eq (x : BitVec 32) (hx : x.toNat ≤ 100000) : baseWord x = BitVec.ofNat 32 (base x) := by
  have hm : x.msb = false := by rw [BitVec.msb_eq_false_iff_two_mul_lt]; omega
  have hc : ¬ IntOp.SDivCorner x 8#32 := by unfold IntOp.SDivCorner; simp
  have hd : Scalar.divsi x 8#32 = BitVec.ofNat 32 (x.toNat / 8) := by
    show IntOp.divsi .scalar x 8#32 = _
    unfold IntOp.divsi
    rw [if_neg hc, BitVec.sdiv_eq, hm, show (8#32).msb = false by decide]
    apply BitVec.eq_of_toNat_eq
    show (x / 8#32).toNat = _
    simp [BitVec.toNat_udiv]
    omega
  have hr : Scalar.remsi x 8#32 = BitVec.ofNat 32 (x.toNat % 8) := by
    show IntOp.remsi .scalar x 8#32 = _
    unfold IntOp.remsi
    rw [if_neg hc, BitVec.srem_eq, hm, show (8#32).msb = false by decide]
    apply BitVec.eq_of_toNat_eq
    show (x % 8#32).toNat = _
    simp [BitVec.toNat_umod]
    omega
  have hs : Scalar.andi (Scalar.cmpi .ne (Scalar.subi (Scalar.extui (Scalar.cmpi .sgt x 0#32)) (Scalar.extui (Scalar.cmpi .slt x 0#32)))
        (Scalar.subi (Scalar.extui (Scalar.cmpi .sgt 8#32 0#32)) (Scalar.extui (Scalar.cmpi .slt 8#32 0#32))))
      (Scalar.cmpi .ne (Scalar.remsi x 8#32) 0#32) = 0#1 := by
    rw [hr]
    have h1 : (0#32).slt x = decide (0 < x.toNat) := slt_iff _ _ (by decide) (by omega)
    have h2 : x.slt 0#32 = false := by rw [slt_iff _ _ (by omega) (by decide)]; simp
    rcases Nat.eq_zero_or_pos x.toNat with h0 | h0
    · rw [h0]
      have : Scalar.cmpi .ne (BitVec.ofNat 32 (0 % 8)) 0#32 = 0#1 := by decide
      rw [this]
      show _ &&& 0#1 = 0#1
      simp
    · have e1 : Scalar.cmpi .sgt x 0#32 = 1#1 := by
        show BitVec.ofBool ((0#32).slt x) = _
        rw [h1, decide_eq_true h0]; rfl
      have e2 : Scalar.cmpi .slt x 0#32 = 0#1 := by
        show BitVec.ofBool (x.slt 0#32) = _
        rw [h2]; rfl
      rw [e1, e2]
      have : Scalar.cmpi .ne (Scalar.subi (Scalar.extui 1#1) (Scalar.extui 0#1))
        (Scalar.subi (Scalar.extui (Scalar.cmpi .sgt 8#32 0#32)) (Scalar.extui (Scalar.cmpi .slt 8#32 0#32))) = 0#1 := by decide
      rw [this]
      show 0#1 &&& _ = 0#1
      simp
  unfold baseWord base
  rw [hs, hd]
  have hmul : Scalar.muli (Scalar.select 0#1 (Scalar.subi (BitVec.ofNat 32 (x.toNat / 8)) 1#32) (BitVec.ofNat 32 (x.toNat / 8))) 8#32
      = BitVec.ofNat 32 (8 * (x.toNat / 8)) := by
    show BitVec.ofNat 32 (x.toNat / 8) * 8#32 = _
    apply BitVec.eq_of_toNat_eq
    simp [BitVec.toNat_mul]
    omega
  rw [hmul]
  show (if (BitVec.ofNat 32 (8 * (x.toNat / 8))).slt 99984#32 then _ else _) = _
  have ht : (BitVec.ofNat 32 (8 * (x.toNat / 8))).toNat = 8 * (x.toNat / 8) := by
    rw [BitVec.toNat_ofNat, Nat.mod_eq_of_lt (by omega)]
  rw [slt_iff _ _ (by omega) (by decide), ht]
  by_cases h : 8 * (x.toNat / 8) < 99984
  · rw [if_pos (by simpa using h), Nat.min_eq_left (by omega)]
  · rw [if_neg (by simpa using h), Nat.min_eq_right (by omega)]

/-- The window ends inside the row. -/
theorem base_le (x : BitVec 32) : base x ≤ 99984 := Nat.min_le_right _ _

/-- The window's first word as a number. -/
theorem base_toNat (x : BitVec 32) : (BitVec.ofNat 32 (base x)).toNat = base x := by
  rw [BitVec.toNat_ofNat, Nat.mod_eq_of_lt]; have := base_le x; omega

/-- The window begins at a multiple of 8. -/
theorem base_dvd (x : BitVec 32) : 8 ∣ base x := by unfold base; omega

/-- The row that a tile works on: two per vector subcore, one for each core. -/
def cloud (i : grid0.Coords) : Nat := 2 * (i 1).val + (i 0).val

/-- There are 32 clouds. -/
theorem cloud_lt (i : grid0.Coords) : cloud i < 32 := by
  have h0 : (i 0).val < 2 := (i 0).isLt
  have h1 : (i 1).val < 16 := (i 1).isLt
  unfold cloud; omega

/-- A word that is the sum of a small start and the window's first word, as a number. -/
theorem start_toNat (i : grid0.Coords) (c : Nat) (hc : c ≤ 200000) (x : BitVec 32) :
    (Scalar.addi (BitVec.ofNat 32 (300000 * cloud i + c)) (BitVec.ofNat 32 (base x))).toNat = 300000 * cloud i + c + base x := by
  have := base_le x
  have := cloud_lt i
  show (_ + _ : BitVec 32).toNat = _
  rw [BitVec.toNat_add, base_toNat, BitVec.toNat_ofNat, Nat.mod_eq_of_lt (by omega : 300000 * cloud i + c < 2 ^ 32), Nat.mod_eq_of_lt (by omega)]

/-- The start of the cloud's first row, as the kernel computes it. -/
theorem start_x (i : grid0.Coords) : (Scalar.muli (Scalar.addi (Scalar.muli (BitVec.ofNat 32 (i 1).val) 2#32) (BitVec.ofNat 32 (i 0).val)) 300000#32) = BitVec.ofNat 32 (300000 * cloud i + 0) := by
  have h0 : (i 0).val < 2 := (i 0).isLt
  have h1 : (i 1).val < 16 := (i 1).isLt
  apply BitVec.eq_of_toNat_eq
  show ((BitVec.ofNat 32 (i 1).val * 2#32 + BitVec.ofNat 32 (i 0).val) * 300000#32).toNat = _
  unfold cloud
  simp [BitVec.toNat_mul, BitVec.toNat_add]
  omega

/-- The start of the cloud's second row, as the kernel computes it. -/
theorem start_y (i : grid0.Coords) : Scalar.addi (BitVec.ofNat 32 (300000 * cloud i + 0)) 100000#32 = BitVec.ofNat 32 (300000 * cloud i + 100000) := by
  have := cloud_lt i
  apply BitVec.eq_of_toNat_eq
  show (BitVec.ofNat 32 (300000 * cloud i + 0) + 100000#32).toNat = _
  simp [BitVec.toNat_add]

/-- The start of the cloud's third row, as the kernel computes it. -/
theorem start_z (i : grid0.Coords) : Scalar.addi (BitVec.ofNat 32 (300000 * cloud i + 100000)) 100000#32 = BitVec.ofNat 32 (300000 * cloud i + 200000) := by
  have := cloud_lt i
  apply BitVec.eq_of_toNat_eq
  show (BitVec.ofNat 32 (300000 * cloud i + 100000) + 100000#32).toNat = _
  simp [BitVec.toNat_add]

section
variable (i : grid0.Coords) (v : FVec F S16 .f32) (w : IVec S16 32)

/-- The word that the kernel states to be a multiple of 8 is the window's first word. -/
theorem mult1 : k0_mult1 (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15) = baseWord (fin v w 16).2 := by
  unfold k0_mult1 baseWord
  simp only [above, equal, fin_start_snd, fin_succ_snd, Nat.reduceAdd]

variable (hw : (fin v w 16).2.toNat ≤ 100000)
include hw

/-- Where the copy of first coordinates begins. -/
theorem off3 : k0_off3 i (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15) = ![300000 * cloud i + 0 + base (fin v w 16).2] := by
  unfold k0_off3
  simp only [above, equal, fin_start_snd, fin_succ_snd, Nat.reduceAdd, start_x]
  rw [← start_toNat i 0 (by decide), ← baseWord_eq _ hw]
  rfl

/-- Where the copy of third coordinates begins. -/
theorem off4 : k0_off4 i (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15) = ![300000 * cloud i + 200000 + base (fin v w 16).2] := by
  unfold k0_off4
  simp only [above, equal, fin_start_snd, fin_succ_snd, Nat.reduceAdd, start_x, start_y, start_z]
  rw [← start_toNat i 200000 (by decide), ← baseWord_eq _ hw]
  rfl

/-- Where the load of second coordinates begins. -/
theorem off5 : k0_off5 (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15) = ![base (fin v w 16).2] := by
  unfold k0_off5
  simp only [above, equal, fin_start_snd, fin_succ_snd, Nat.reduceAdd]
  rw [← base_toNat, ← baseWord_eq _ hw]
  rfl

/-- The copies of the window are at whole granules and inside their arrays. -/
theorem chk1 : k0_chk1 i (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15) := by
  have hb := base_le (fin v w 16).2
  have hi := cloud_lt i
  unfold k0_chk1
  refine ⟨?_, ?_, ?_, ?_⟩
  · rw [mult1, baseWord_eq _ hw, base_toNat]; exact base_dvd _
  · rw [off3 i v w hw]; intro a; match a with | ⟨0, _⟩ => show 300000 * cloud i + 0 + base (fin v w 16).2 + 16 ≤ 9600000; omega
  · rw [off4 i v w hw]; intro a; match a with | ⟨0, _⟩ => show 300000 * cloud i + 200000 + base (fin v w 16).2 + 16 ≤ 9600000; omega
  · rw [off5 v w hw]; intro a; match a with | ⟨0, _⟩ => show base (fin v w 16).2 + 16 ≤ 100000; omega
end

end Cert.KernelIdeal.Fps
-- ==== Proof.Fps.FirstMax.lean ====
/- First maxima over the extended reals, the squared distance of the sampling step, and the fold of
   the arg-max reducer: the mathematics that the kernel and the reference share. -/
module

public import Idealize.ShloMosaic.PureOps.Ideal
public import Idealize.ShloMosaic.PureOps.Ideal.Laws
public import Idealize.ShloMosaic.PureOps.Reduce
public import Idealize.ShloMosaic.Lib.Pointwise

@[expose] public section

noncomputable section

namespace Cert.Fps

open Idealize.ShloMosaic

/-- `k` is the first index at which `f` takes its largest value. -/
def FirstMax {n : Nat} (f : Fin n → EReal) (k : Fin n) : Prop :=
  (∀ j, f j ≤ f k) ∧ ∀ j, j < k → f j < f k

/-- There is only one first maximum. -/
theorem FirstMax.unique {n : Nat} {f : Fin n → EReal} {k l : Fin n} (hk : FirstMax f k) (hl : FirstMax f l) : k = l := by
  rcases lt_trichotomy k l with h | h | h
  · exact absurd (hl.2 k h) (not_lt.2 (hk.1 l))
  · exact h
  · exact absurd (hk.2 l h) (not_lt.2 (hl.1 k))

/-- The cap on squared distances, the float word of 10¹⁰. -/
def cap : EReal := Ideal.ofBits .f32 0x501502F9#32

/-- The squared distance of point `j` from point `k`, capped: `x a n` is coordinate `a` of point `n`. -/
def capDist {n : Nat} (x : Fin 3 → Fin n → EReal) (k j : Fin n) : EReal :=
  min ((x 0 j - x 0 k) * (x 0 j - x 0 k) + (x 1 j - x 1 k) * (x 1 j - x 1 k) + (x 2 j - x 2 k) * (x 2 j - x 2 k)) cap

/-- The pair `p` of a value and an index comes first: its value is larger, or the same at no larger index. -/
def Beats (p q : EReal × BitVec 32) : Prop := q.1 < p.1 ∨ (q.1 = p.1 ∧ p.2.toInt ≤ q.2.toInt)

/-- A pair comes first against itself. -/
theorem Beats.refl (p : EReal × BitVec 32) : Beats p p := .inr ⟨rfl, le_refl _⟩

/-- Coming first is transitive. -/
theorem Beats.trans {p q r : EReal × BitVec 32} (h : Beats p q) (h' : Beats q r) : Beats p r := by
  rcases h with h | ⟨h, h2⟩ <;> rcases h' with h' | ⟨h', h2'⟩
  · exact .inl (h'.trans h)
  · exact .inl (h' ▸ h)
  · exact .inl (h ▸ h')
  · exact .inr ⟨h'.trans h, h2.trans h2'⟩

/-- A binary operation that returns one of its two operands, the one that comes first. -/
def Picks (f : EReal × BitVec 32 → EReal × BitVec 32 → EReal × BitVec 32) : Prop :=
  ∀ a b, (f a b = a ∨ f a b = b) ∧ Beats (f a b) a ∧ Beats (f a b) b

/-- A fold of such an operation is the start or one of the elements, and comes before all of them. -/
theorem Picks.foldl {ι : Type} {f : EReal × BitVec 32 → EReal × BitVec 32 → EReal × BitVec 32} (hf : Picks f)
    (g : ι → EReal × BitVec 32) (L : List ι) (init : EReal × BitVec 32) :
    (L.foldl (fun r i => f r (g i)) init = init ∨ ∃ i ∈ L, L.foldl (fun r i => f r (g i)) init = g i)
    ∧ Beats (L.foldl (fun r i => f r (g i)) init) init ∧ ∀ i ∈ L, Beats (L.foldl (fun r i => f r (g i)) init) (g i) := by
  induction L generalizing init with
  | nil => exact ⟨.inl rfl, Beats.refl _, by simp⟩
  | cons a L ih =>
    obtain ⟨h1, h2, h3⟩ := ih (f init (g a))
    obtain ⟨p1, p2, p3⟩ := hf init (g a)
    rw [List.foldl_cons]
    refine ⟨?_, h2.trans p2, ?_⟩
    · rcases h1 with h1 | ⟨i, hi, h1⟩
      · rcases p1 with p1 | p1
        · exact .inl (h1.trans p1)
        · exact .inr ⟨a, by simp, h1.trans p1⟩
      · exact .inr ⟨i, by simp [hi], h1⟩
    · intro i hi
      rcases List.mem_cons.1 hi with rfl | hi
      · exact h2.trans p3
      · exact h3 i hi

/-- The word of a small number, read signed, is the number. -/
theorem toInt_ofNat_small (k : Nat) (h : k < 2 ^ 31) : (BitVec.ofNat 32 k).toInt = k := by
  rw [BitVec.toInt_eq_toNat_cond]
  simp only [BitVec.toNat_ofNat]
  have : k % 2 ^ 32 = k := Nat.mod_eq_of_lt (by omega)
  rw [this, if_pos (by omega)]

/-- The float word of minus infinity is the bottom of the extended reals. -/
theorem ofBits_neg_inf : Ideal.ofBits .f32 0xFF800000#32 = ⊥ := by
  simp [Ideal.ofBits, Ideal.ieee]

/-- A row's fold: the pair that comes first among `(x (row k), y (row k))`, where `y (row k)` is the word of
    `k`, and the start `(⊥, 0)`, holds the word of the row's first maximum. -/
theorem Picks.reduce2_first {s t u : Shape} {axes : List (Fin s.rank)} {n : Nat}
    {f : EReal × BitVec 32 → EReal × BitVec 32 → EReal × BitVec 32} (hf : Picks f)
    (x : s.Idx → EReal) (y : s.Idx → BitVec 32) (ix : u.Idx → EReal) (iy : u.Idx → BitVec 32)
    (h : s.ReducesTo axes t) (hu : 0 < u.numel) (j : t.Idx) (hn : 0 < n) (hn' : n ≤ 100000)
    (row : Fin n → s.Idx) (hrow : ∀ k, h.drop (row k) = j) (hex : ∀ q, h.drop q = j → ∃ k, q = row k)
    (hy : ∀ k, y (row k) = BitVec.ofNat 32 k.val) (hix : ∀ i, ix i = ⊥) (hiy : ∀ i, iy i = 0#32) :
    ∃ k : Fin n, FirstMax (fun m => x (row m)) k ∧ (Host.reduce2 f x y ix iy h hu j).2 = BitVec.ofNat 32 k.val := by
  unfold Host.reduce2
  obtain ⟨h1, h2, h3⟩ := hf.foldl (fun m => (x (s.rowMajor.symm m), y (s.rowMajor.symm m)))
    ((List.finRange s.numel).filter fun m => h.drop (s.rowMajor.symm m) = j)
    (ix (Shape.Idx.first hu), iy (Shape.Idx.first hu))
  rw [hix, hiy] at *
  revert h1 h2 h3
  generalize List.foldl _ _ _ = r
  intro h1 h2 h3
  have hall : ∀ k : Fin n, Beats r (x (row k), BitVec.ofNat 32 k.val) := by
    intro k
    have := h3 (s.rowMajor (row k)) (by
      rw [List.mem_filter]
      refine ⟨List.mem_finRange _, ?_⟩
      rw [Equiv.symm_apply_apply, decide_eq_true_iff]
      exact hrow k)
    rw [Equiv.symm_apply_apply, hy] at this
    exact this
  rcases h1 with h1 | ⟨i, hi, h1⟩
  · have e1 : r.1 = (⊥ : EReal) := by rw [h1]
    have e2 : r.2 = 0#32 := by rw [h1]
    have hbot : ∀ k : Fin n, x (row k) = (⊥ : EReal) := by
      intro k
      rcases hall k with h | h
      · rw [e1] at h; exact absurd h not_lt_bot
      · rw [← e1]; exact h.1
    refine ⟨⟨0, hn⟩, ⟨fun j => ?_, fun j hj => absurd hj (by simp [Fin.lt_def])⟩, e2⟩
    show x (row j) ≤ x (row _)
    rw [hbot, hbot]
  · rw [List.mem_filter, decide_eq_true_iff] at hi
    obtain ⟨k, hk⟩ := hex _ hi.2
    rw [hk, hy] at h1
    have e1 : r.1 = x (row k) := by rw [h1]
    have e2 : r.2 = BitVec.ofNat 32 k.val := by rw [h1]
    refine ⟨k, ⟨fun j => ?_, fun j hj => ?_⟩, e2⟩
    · show x (row j) ≤ x (row k)
      rcases hall j with h | h
      · rw [← e1]; exact h.le
      · rw [← e1]; exact h.1.le
    · show x (row j) < x (row k)
      rcases hall j with h | h
      · rw [← e1]; exact h
      · exfalso
        have hj' : r.2.toInt ≤ (BitVec.ofNat 32 j.val).toInt := h.2
        rw [e2, toInt_ofNat_small j.val (by omega), toInt_ofNat_small k.val (by omega)] at hj'
        have : j.val < k.val := hj
        omega

/-- The same of the host's arg-max: no ideal value is unequal to itself, so it is the plain fold. -/
theorem Picks.argReduce_first {s t u : Shape} {axes : List (Fin s.rank)} {n : Nat}
    {f : Ideal .f32 × BitVec 32 → Ideal .f32 × BitVec 32 → Ideal .f32 × BitVec 32} (hf : Picks f)
    (x : FVec Ideal s .f32) (y : s.Idx → BitVec 32) (ix : u.Idx → Ideal .f32) (iy : u.Idx → BitVec 32)
    (h : s.ReducesTo axes t) (hu : 0 < u.numel) (j : t.Idx) (hn : 0 < n) (hn' : n ≤ 100000)
    (row : Fin n → s.Idx) (hrow : ∀ k, h.drop (row k) = j) (hex : ∀ q, h.drop q = j → ∃ k, q = row k)
    (hy : ∀ k, y (row k) = BitVec.ofNat 32 k.val) (hix : ∀ i, ix i = (⊥ : EReal)) (hiy : ∀ i, iy i = 0#32) :
    ∃ k : Fin n, FirstMax (fun m => x (row m)) k ∧ (Host.argReduce f x y ix iy h hu j).2 = BitVec.ofNat 32 k.val := by
  rw [Ideal.argReduce_eq_reduce2]
  exact hf.reduce2_first x y ix iy h hu j hn hn' row hrow hex hy hix hiy

end Cert.Fps
-- ==== Proof.Fps.Best.lean ====
/- What the kernel's running maxima and their fold find, over the extended reals: the first maximum of a
   sequence that somewhere exceeds the start value -10¹⁰. -/
module

public import proofs.«01_k».proof.Proof.Fps.Window
public import proofs.«01_k».proof.Proof.Fps.FirstMax

@[expose] public section

noncomputable section

namespace Cert.KernelIdeal.Fps

open Cert.KernelIdeal Cert.Fps Idealize.ShloMosaic Idealize.SL.Sem

/-- The value that every pass starts from, the float word of -10¹⁰. -/
def low : EReal := Ideal.ofBits .f32 0xD01502F9#32

/-- A comparison's bit is set where the comparison holds. -/
theorem bit_iff (p : Prop) [Decidable p] : BitVec.ofBool (decide p) = 1#1 ↔ p := by
  by_cases h : p <;> simp [h]

/-- A select on the bit 1 is its first choice. -/
theorem select_one {α : Type} (c : BitVec 1) (h : c = 1#1) (a b : α) : Scalar.select c a b = a := by
  subst h; rfl

/-- A select on a bit that is not 1 is its second choice. -/
theorem select_ne {α : Type} (c : BitVec 1) (h : c ≠ 1#1) (a b : α) : Scalar.select c a b = b := by
  unfold Scalar.select
  exact if_neg h

/-- At the extended reals the comparison "greater" is that of the numbers. -/
theorem gt_iff (v m : EReal) : Ideal.cmp .ogt v m = 1#1 ↔ m < v := by
  show BitVec.ofBool (decide (m < v)) = 1#1 ↔ _
  exact bit_iff _

/-- At the extended reals the comparison "equal" is equality of the numbers. -/
theorem eq_iff (v m : EReal) : Ideal.cmp .oeq v m = 1#1 ↔ v = m := by
  show BitVec.ofBool (decide (v = m)) = 1#1 ↔ _
  exact bit_iff _

/-- When the fold takes a lane. -/
theorem takes_iff (s : Ideal .f32 × BitVec 32) (v : Ideal .f32) (i : BitVec 32) :
    takes s v i = 1#1 ↔ (s.1 : EReal) < v ∨ ((v : EReal) = s.1 ∧ i.slt s.2 = true) := by
  have hor : ∀ a b : BitVec 1, a ||| b = 1#1 ↔ a = 1#1 ∨ b = 1#1 := by decide
  have hand : ∀ a b : BitVec 1, a &&& b = 1#1 ↔ a = 1#1 ∧ b = 1#1 := by decide
  have hb : ∀ b : Bool, BitVec.ofBool b = 1#1 ↔ b = true := by decide
  show Ideal.cmp .ogt v s.1 ||| (Ideal.cmp .oeq v s.1 &&& BitVec.ofBool (i.slt s.2)) = 1#1 ↔ _
  rw [hor, hand, hb, gt_iff, eq_iff]

/-- What lane `l` holds after `t` trips: the start, where nothing seen exceeds it; else the first of the largest
    values that it met. -/
def Lane (f : Nat → EReal) (t l : Nat) (v : EReal) (w : BitVec 32) : Prop :=
  (v = low ∧ ∀ u, u < t → f (16 * u + l) ≤ low)
    ∨ ∃ u, u < t ∧ w = BitVec.ofNat 32 (16 * u + l) ∧ v = f (16 * u + l) ∧ low < f (16 * u + l)
        ∧ ∀ u', u' < t → f (16 * u' + l) ≤ f (16 * u + l) ∧ (u' < u → f (16 * u' + l) < f (16 * u + l))

/-- After `t` trips of a pass every lane holds what `Lane` says: the first of its largest values, or its start. -/
theorem scan_lane (f : Nat → Ideal .f32) (t : Nat) (l : S16.Idx) : Lane f t (l 0).val ((scan f t).1 l) ((scan f t).2 l) := by
  induction t with
  | zero => exact .inl ⟨rfl, fun u h => absurd h (Nat.not_lt_zero u)⟩
  | succ t ih =>
    have e1 : (scan f (t + 1)).1 l = Scalar.select (Ideal.cmp .ogt (f (16 * t + (l 0).val)) ((scan f t).1 l)) (f (16 * t + (l 0).val)) ((scan f t).1 l) := rfl
    have e2 : (scan f (t + 1)).2 l = Scalar.select (Ideal.cmp .ogt (f (16 * t + (l 0).val)) ((scan f t).1 l)) (BitVec.ofNat 32 (16 * t + (l 0).val)) ((scan f t).2 l) := rfl
    rw [e1, e2]
    revert ih
    generalize (scan f t).1 l = v
    generalize (scan f t).2 l = w
    generalize (l 0).val = n
    intro ih
    by_cases h : (v : EReal) < f (16 * t + n)
    · rw [select_one _ ((gt_iff _ _).mpr h), select_one _ ((gt_iff _ _).mpr h)]
      refine .inr ⟨t, Nat.lt_succ_self t, rfl, rfl, ?_, fun u' hu' => ?_⟩
      · rcases ih with ⟨hv, -⟩ | ⟨u, -, -, hv, hl, -⟩
        · rw [← hv]; exact h
        · rw [hv] at h; exact hl.trans h
      · have old : u' < t → f (16 * u' + n) < f (16 * t + n) := by
          intro hlt
          rcases ih with ⟨hv, hall⟩ | ⟨u, -, -, hv, -, hall⟩
          · exact (hall u' hlt).trans_lt (hv ▸ h)
          · exact ((hall u' hlt).1).trans_lt (hv ▸ h)
        rcases Nat.lt_succ_iff_lt_or_eq.mp hu' with hlt | rfl
        · exact ⟨(old hlt).le, old⟩
        · exact ⟨le_refl _, fun hh => absurd hh (lt_irrefl _)⟩
    · rw [select_ne _ (fun e => h ((gt_iff _ _).mp e)), select_ne _ (fun e => h ((gt_iff _ _).mp e))]
      have hle : f (16 * t + n) ≤ (v : EReal) := not_lt.mp h
      rcases ih with ⟨hv, hall⟩ | ⟨u, hu, hw, hv, hl, hall⟩
      · refine .inl ⟨hv, fun u' hu' => ?_⟩
        rcases Nat.lt_succ_iff_lt_or_eq.mp hu' with hlt | rfl
        · exact hall u' hlt
        · exact hv ▸ hle
      · refine .inr ⟨u, Nat.lt_succ_of_lt hu, hw, hv, hl, fun u' hu' => ?_⟩
        rcases Nat.lt_succ_iff_lt_or_eq.mp hu' with hlt | rfl
        · exact hall u' hlt
        · exact ⟨hv ▸ hle, fun hh => absurd (hu.trans hh) (lt_irrefl _)⟩

/-- What the fold holds after `l` lanes of 6250 values each: the start, where nothing in them exceeds it; else their
    largest value, at its first position. -/
def Folded (f : Nat → EReal) (l : Nat) (s : EReal × BitVec 32) : Prop :=
  (s.1 = low ∧ ∀ u l', u < 6250 → l' < l → f (16 * u + l') ≤ low)
    ∨ ∃ k, k < 100000 ∧ s.2 = BitVec.ofNat 32 k ∧ s.1 = f k ∧ low < f k
        ∧ ∀ u l', u < 6250 → l' < l → f (16 * u + l') ≤ f k ∧ (16 * u + l' < k → f (16 * u + l') < f k)

/-- A number below 100000 is unchanged as a 32-bit word. -/
theorem small (k : Nat) (h : k < 100000) : (BitVec.ofNat 32 k).toNat = k := by
  rw [BitVec.toNat_ofNat, Nat.mod_eq_of_lt (by omega)]

/-- Where each lane holds its first largest value, the fold of the first `l` lanes holds the first largest value of
    them all. -/
theorem fin_folded (f : Nat → EReal) (v : FVec Ideal S16 .f32) (i : IVec S16 32)
    (hl : ∀ l, l < 16 → Lane f 6250 l (v (lane l)) (i (lane l))) (l : Nat) (hle : l ≤ 16) : Folded f l (fin v i l) := by
  induction l with
  | zero => exact .inl ⟨rfl, fun _ l' _ h => absurd h (Nat.not_lt_zero l')⟩
  | succ l ih =>
    have ih := ih (by omega)
    have hl := hl l (by omega)
    have hl16 : l < 16 := by omega
    have hs : fin v i (l + 1) = (Scalar.select (takes (fin v i l) (v (lane l)) (i (lane l))) (v (lane l)) (fin v i l).1,
      Scalar.select (takes (fin v i l) (v (lane l)) (i (lane l))) (i (lane l)) (fin v i l).2) := rfl
    rw [hs]
    have ht := takes_iff (fin v i l) (v (lane l)) (i (lane l))
    revert ih hl ht
    generalize fin v i l = s
    generalize v (lane l) = a
    generalize i (lane l) = w
    intro ih hl ht
    by_cases h : takes s a w = 1#1
    · rw [select_one _ h, select_one _ h]
      rw [h] at ht
      have ht := ht.mp rfl
      rcases hl with ⟨ha, hall⟩ | ⟨u, hu, hw, ha, hlow, hall⟩
      · -- the lane holds the start: so does the fold
        rcases ih with ⟨hs1, hprev⟩ | ⟨k, hk, hs2, hs1, hlow, hprev⟩
        · refine .inl ⟨ha, fun u l' hu hl' => ?_⟩
          rcases Nat.lt_succ_iff_lt_or_eq.mp hl' with hlt | rfl
          · exact hprev u l' hu hlt
          · exact hall u hu
        · exfalso
          rcases ht with ht | ⟨ht, -⟩
          · rw [hs1, ha] at ht; exact absurd (hlow.trans ht) (lt_irrefl _)
          · rw [hs1, ha] at ht; exact absurd (ht ▸ hlow) (lt_irrefl _)
      · refine .inr ⟨16 * u + l, by omega, hw, ha, hlow, fun u' l' hu' hl' => ?_⟩
        rcases Nat.lt_succ_iff_lt_or_eq.mp hl' with hlt | rfl
        · rcases ih with ⟨hs1, hprev⟩ | ⟨k, hk, hs2, hs1, -, hprev⟩
          · exact ⟨(hprev u' l' hu' hlt).trans hlow.le, fun _ => (hprev u' l' hu' hlt).trans_lt hlow⟩
          · rw [hs1, ha, hs2, hw] at ht
            rcases ht with ht | ⟨ht, hlt2⟩
            · exact ⟨(hprev u' l' hu' hlt).1.trans ht.le, fun _ => (hprev u' l' hu' hlt).1.trans_lt ht⟩
            · rw [slt_iff _ _ (by rw [small _ (by omega)]; omega) (by rw [small _ hk]; omega), small _ (by omega), small _ hk, decide_eq_true_iff] at hlt2
              rw [ht]
              exact ⟨(hprev u' l' hu' hlt).1, fun hh => (hprev u' l' hu' hlt).2 (hh.trans hlt2)⟩
        · exact ⟨(hall u' hu').1, fun hh => (hall u' hu').2 (by omega)⟩
    · rw [select_ne _ h, select_ne _ h]
      have ht : ¬ ((s.1 : EReal) < a ∨ ((a : EReal) = s.1 ∧ w.slt s.2 = true)) := fun e => h (ht.mpr e)
      rw [not_or] at ht
      have hmax : (a : EReal) ≤ s.1 := not_lt.mp ht.1
      rcases ih with ⟨hs1, hprev⟩ | ⟨k, hk, hs2, hs1, hlow, hprev⟩
      · refine .inl ⟨hs1, fun u' l' hu' hl' => ?_⟩
        rcases Nat.lt_succ_iff_lt_or_eq.mp hl' with hlt | rfl
        · exact hprev u' l' hu' hlt
        · rcases hl with ⟨-, hall⟩ | ⟨u, -, -, ha, hlow, -⟩
          · exact hall u' hu'
          · rw [ha, hs1] at hmax
            exact absurd (hlow.trans_le hmax) (lt_irrefl _)
      · refine .inr ⟨k, hk, hs2, hs1, hlow, fun u' l' hu' hl' => ?_⟩
        rcases Nat.lt_succ_iff_lt_or_eq.mp hl' with hlt | rfl
        · exact hprev u' l' hu' hlt
        · rcases hl with ⟨-, hall⟩ | ⟨u, hu, hw, ha, -, hall⟩
          · exact ⟨(hall u' hu').trans hlow.le, fun _ => (hall u' hu').trans_lt hlow⟩
          · rw [ha, hs1] at hmax
            refine ⟨(hall u' hu').1.trans hmax, fun hh => ?_⟩
            rcases lt_or_eq_of_le hmax with hlt | heq
            · exact (hall u' hu').1.trans_lt hlt
            · -- a tie that the fold leaves: the lane's position is no earlier
              have hge : k ≤ 16 * u + l' := by
                by_contra hc
                refine ht.2 ⟨by rw [ha, hs1, heq], ?_⟩
                rw [hw, hs2, slt_iff _ _ (by rw [small _ (by omega)]; omega) (by rw [small _ hk]; omega), small _ (by omega), small _ hk, decide_eq_true_iff]
                omega
              rw [← heq]
              exact (hall u' hu').2 (by omega)

/-- The pass finds the first maximum. -/
theorem best_first (f : Nat → Ideal .f32) (h : ∃ n, n < 100000 ∧ low < (f n : EReal)) :
    ∃ k : Fin 100000, FirstMax (fun n : Fin 100000 => (f n.val : EReal)) k ∧ best f = BitVec.ofNat 32 k.val := by
  have hf := fin_folded f (scan f 6250).1 (scan f 6250).2 (fun l hl => by
    have := scan_lane f 6250 (lane l)
    rw [show ((lane l) 0).val = l from Nat.mod_eq_of_lt hl] at this
    exact this) 16 (le_refl _)
  have hsplit : ∀ n : Nat, 16 * (n / 16) + n % 16 = n := fun n => Nat.div_add_mod n 16
  rcases hf with ⟨-, hall⟩ | ⟨k, hk, hw, -, -, hall⟩
  · obtain ⟨n, hn, hlow⟩ := h
    have := hall (n / 16) (n % 16) (by omega) (Nat.mod_lt _ (by decide))
    rw [hsplit] at this
    exact absurd (hlow.trans_le this) (lt_irrefl _)
  · refine ⟨⟨k, hk⟩, ⟨fun j => ?_, fun j hj => ?_⟩, hw⟩
    · have := (hall (j.val / 16) (j.val % 16) (by omega) (Nat.mod_lt _ (by decide))).1
      rw [hsplit] at this
      exact this
    · have := (hall (j.val / 16) (j.val % 16) (by omega) (Nat.mod_lt _ (by decide))).2
      rw [hsplit] at this
      exact this hj

end Cert.KernelIdeal.Fps
-- ==== Proof.Fps.Four.lean ====
/- The part of the body that ends the first pass. -/
module

public import proofs.«01_k».proof.Proof.Fps.Window

@[expose] public section

set_option maxRecDepth 65536

noncomputable section

namespace Cert.KernelIdeal.Fps

open Cert.KernelIdeal Cert.KernelIdeal.Gen Idealize.ShloMosaic Idealize.SL.Sem

variable {F : FTy → Type} [FloatOps F]

variable (i : grid0.Coords) (arg2 : Memref sig .scVector .hbm S9600000 .f32) (harg2 : arg2.IsWhole) (arg3 : Memref sig .scVector .hbm S32x16 .i32) (harg3 : arg3.IsWhole) (arg4 : Memref sig .scVector .vmem S100000 .f32) (harg4 : arg4.IsWhole) (arg5 : Memref sig .scVector .vmem S10000 .f32) (harg5 : arg5.IsWhole) (arg6 : Memref sig .scVector .vmem S10000 .f32) (harg6 : arg6.IsWhole)
  (arg7 : Memref sig .scVector .vmem S16 .f32) (harg7 : arg7.IsWhole) (arg8 : Memref sig .scVector .vmem S16 .f32) (harg8 : arg8.IsWhole) (arg9 : Memref sig .scVector .vmem S16 .i32) (harg9 : arg9.IsWhole)
  (v635_r0 v635_r1 v635_r2 v635_r3 v635_r4 v635_r5 v635_r6 v635_r7 v635_r8 v635_r9 v635_r10 v635_r11 v635_r12 v635_r13 v635_r14 v635_r15 v635_r16 v635_r17 v635_r18 v635_r19 v635_r20 v635_r21 v635_r22 v635_r23 : DmaSems sig S_)
  (v : FVec F S16 .f32) (w : IVec S16 32)

set_option maxHeartbeats 1000000 in
/-- The fourth part over any words for its steps' results. -/
theorem part4_of (v9_0 : FVec F S16 .f32) (v9_1 : IVec S16 32) (v13 : BitVec 32) (v14 : BitVec 1) (v15 : BitVec 1) (v24 : BitVec 32) (v25 : BitVec 1) (v26 : BitVec 1) (v35 : BitVec 32) (v36 : BitVec 1) (v37 : BitVec 1) (v46 : BitVec 32) (v47 : BitVec 1) (v48 : BitVec 1) (v57 : BitVec 32) (v58 : BitVec 1) (v59 : BitVec 1) (v68 : BitVec 32) (v69 : BitVec 1) (v70 : BitVec 1) (v79 : BitVec 32) (v80 : BitVec 1) (v81 : BitVec 1) (v90 : BitVec 32) (v91 : BitVec 1) (v92 : BitVec 1) (v101 : BitVec 32) (v102 : BitVec 1) (v103 : BitVec 1) (v112 : BitVec 32) (v113 : BitVec 1) (v114 : BitVec 1) (v123 : BitVec 32) (v124 : BitVec 1) (v125 : BitVec 1) (v134 : BitVec 32) (v135 : BitVec 1) (v136 : BitVec 1) (v145 : BitVec 32) (v146 : BitVec 1) (v147 : BitVec 1) (v151 : F .f32) (v152 : BitVec 32) (v154 : F .f32) (v156 : BitVec 32) (g13 : BitVec 1) (e13 : BitVec 1) (f14 : F .f32) (i14 : BitVec 32) (y14 : F .f32) (w14 : BitVec 32) (g14 : BitVec 1) (e14 : BitVec 1) (f15 : F .f32) (i15 : BitVec 32) (y15 : F .f32) (w15 : BitVec 32) (g15 : BitVec 1) (e15 : BitVec 1) (i16 : BitVec 32) (b : BitVec 32) (r : BitVec 32)
    (h0 : Scalar.cmpf .ogt v154 v151 = g13) (h1 : Scalar.cmpf .oeq v154 v151 = e13) (h2 : Scalar.select (Scalar.ori g13 (Scalar.andi e13 (Scalar.cmpi .slt v156 v152))) v154 v151 = f14) (h3 : Scalar.select (Scalar.ori g13 (Scalar.andi e13 (Scalar.cmpi .slt v156 v152))) v156 v152 = i14) (h4 : extractAt ![0] (extractStridedSlice S1 ![14] v9_0 slices_S16_o14_S1) inpos_S1_p0 = y14) (h5 : extractAt ![0] (extractStridedSlice S1 ![14] v9_1 slices_S16_o14_S1) inpos_S1_p0 = w14) (h6 : Scalar.cmpf .ogt y14 f14 = g14) (h7 : Scalar.cmpf .oeq y14 f14 = e14) (h8 : Scalar.select (Scalar.ori g14 (Scalar.andi e14 (Scalar.cmpi .slt w14 i14))) y14 f14 = f15) (h9 : Scalar.select (Scalar.ori g14 (Scalar.andi e14 (Scalar.cmpi .slt w14 i14))) w14 i14 = i15) (h10 : extractAt ![0] (extractStridedSlice S1 ![15] v9_0 slices_S16_o15_S1) inpos_S1_p0 = y15) (h11 : extractAt ![0] (extractStridedSlice S1 ![15] v9_1 slices_S16_o15_S1) inpos_S1_p0 = w15) (h12 : Scalar.cmpf .ogt y15 f15 = g15) (h13 : Scalar.cmpf .oeq y15 f15 = e15) (h14 : Scalar.select (Scalar.ori g15 (Scalar.andi e15 (Scalar.cmpi .slt w15 i15))) w15 i15 = i16) (h15 : baseWord i16 = b) (h16 : Scalar.subi i16 b = r) :
    k0_part4 (F := F) i arg2 harg2 arg3 harg3 arg4 harg4 arg5 harg5 arg6 harg6 arg7 harg7 arg8 harg8 arg9 harg9 v635_r0 v635_r1 v635_r2 v635_r3 v635_r4 v635_r5 v635_r6 v635_r7 v635_r8 v635_r9 v635_r10 v635_r11 v635_r12 v635_r13 v635_r14 v635_r15 v635_r16 v635_r17 v635_r18 v635_r19 v635_r20 v635_r21 v635_r22 v635_r23 v9_0 v9_1 v13 v14 v15 v24 v25 v26 v35 v36 v37 v46 v47 v48 v57 v58 v59 v68 v69 v70 v79 v80 v81 v90 v91 v92 v101 v102 v103 v112 v113 v114 v123 v124 v125 v134 v135 v136 v145 v146 v147 v151 v152 v154 v156
    = (Prog.lift (TpuEff.assume (k0_chk1 i v13 v14 v15 v24 v25 v26 v35 v36 v37 v46 v47 v48 v57 v58 v59 v68 v69 v70 v79 v80 v81 v90 v91 v92 v101 v102 v103 v112 v113 v114 v123 v124 v125 v134 v135 v136 v145 v146 v147 v156 g13 e13 w14 g14 e14 w15 g15 e15) (k0_chk1.dec i v13 v14 v15 v24 v25 v26 v35 v36 v37 v46 v47 v48 v57 v58 v59 v68 v69 v70 v79 v80 v81 v90 v91 v92 v101 v102 v103 v112 v113 v114 v123 v124 v125 v134 v135 v136 v145 v146 v147 v156 g13 e13 w14 g14 e14 w15 g15 e15)) >>= fun h' => let h := h'.down; pure ⟨g13, e13, w14, g14, e14, w15, g15, e15, h, i16, b, r⟩) := by
  subst h0; subst h1; subst h2; subst h3; subst h4; subst h5; subst h6; subst h7; subst h8; subst h9; subst h10; subst h11; subst h12; subst h13; subst h14; subst h15; subst h16
  rfl

/-- The fourth part ends the fold over the lanes and computes the window's start. -/
theorem part4 : k0_part4 (F := F) i arg2 harg2 arg3 harg3 arg4 harg4 arg5 harg5 arg6 harg6 arg7 harg7 arg8 harg8 arg9 harg9 v635_r0 v635_r1 v635_r2 v635_r3 v635_r4 v635_r5 v635_r6 v635_r7 v635_r8 v635_r9 v635_r10 v635_r11 v635_r12 v635_r13 v635_r14 v635_r15 v635_r16 v635_r17 v635_r18 v635_r19 v635_r20 v635_r21 v635_r22 v635_r23 v w (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (fin v w 13).1 (fin v w 13).2 (v (lane 13)) (w (lane 13))
    = (Prog.lift (TpuEff.assume (k0_chk1 i (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15)) (k0_chk1.dec i (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15))) >>= fun h' => let h := h'.down;
      pure ⟨above v w 13, equal v w 13, w (lane 14), above v w 14, equal v w 14, w (lane 15), above v w 15, equal v w 15, h, (fin v w 16).2, baseWord (fin v w 16).2, Scalar.subi (fin v w 16).2 (baseWord (fin v w 16).2)⟩) :=
  part4_of i arg2 harg2 arg3 harg3 arg4 harg4 arg5 harg5 arg6 harg6 arg7 harg7 arg8 harg8 arg9 harg9 v635_r0 v635_r1 v635_r2 v635_r3 v635_r4 v635_r5 v635_r6 v635_r7 v635_r8 v635_r9 v635_r10 v635_r11 v635_r12 v635_r13 v635_r14 v635_r15 v635_r16 v635_r17 v635_r18 v635_r19 v635_r20 v635_r21 v635_r22 v635_r23 v w (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (fin v w 13).1 (fin v w 13).2 (v (lane 13)) (w (lane 13)) (above v w 13) (equal v w 13) (fin v w 14).1 (fin v w 14).2 (v (lane 14)) (w (lane 14)) (above v w 14) (equal v w 14) (fin v w 15).1 (fin v w 15).2 (v (lane 15)) (w (lane 15)) (above v w 15) (equal v w 15) (fin v w 16).2 (baseWord (fin v w 16).2) _
    rfl rfl (fin_succ_fst v w 13) (fin_succ_snd v w 13) (cut14 v _ _) (cut14 w _ _) rfl rfl (fin_succ_fst v w 14) (fin_succ_snd v w 14) (cut15 v _ _) (cut15 w _ _) rfl rfl (fin_succ_snd v w 15) rfl rfl

end Cert.KernelIdeal.Fps
-- ==== Proof.Fps.Setup.lean ====
/- The program as the launch theorem takes it: its configuration, the resource algebra, a tile's thread, and
   the one trip that each of the body's loops makes. -/
module

public import proofs.«01_k».proof.Defs
public import proofs.«01_k».proof.Proof.Fps.Four
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

set_option maxRecDepth 65536

noncomputable section

namespace Cert.KernelIdeal.Fps

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The facts of the launch: its cores, its tiles and its hand-shakes fit the chip. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's handshakes beside the copies' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The tile that coordinates name. -/
abbrev cV (L : grid0.Coords) : Fin τ.nSC := (L 0).castLE hcore0
abbrev jV (L : grid0.Coords) : Fin τ.nSub := (L 1).castLE hsub0

/-- What a tile owes: its tallies as given, its waits recorded beyond those given at no index. -/
def owed (d : Dev nD) (L : grid0.Coords) (O : CellTallies nD τ sig (HIx 1)) (W : Waits sig (HIx 1)) : sProp 𝕄 :=
  iprop(∃ W', ⌜∀ p ∈ W', p ∈ W ∨ p.2 = none⌝ ∗ owes (V d (cV L) (jV L)) O W')

/-- Recording one more wait at no index. -/
theorem recorded {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

/-! ## One trip of a loop -/

variable [FloatOps F]

/-- The words of a trip's positions. -/
theorem positions (p : Nat) (b : BitVec 32) (hb : b = BitVec.ofNat 32 p) :
    addi (iota .scVector S16 32 [0] iota_S16_d0_w32_scVector) (broadcast S16 b) = pos p := by
  subst hb
  funext l
  show iota .scVector S16 32 [0] iota_S16_d0_w32_scVector l + BitVec.ofNat 32 p = BitVec.ofNat 32 (p + (l 0).val)
  have : iota .scVector S16 32 [0] iota_S16_d0_w32_scVector l = BitVec.ofNat 32 (l 0).val := by
    show BitVec.ofNat 32 (0 * _ + (l 0).val) = _
    rw [Nat.zero_mul, Nat.zero_add]
  rw [this, BitVec.add_comm, BitVec.ofNat_add]

/-- A trip's number as a word, times sixteen. -/
theorem trip_word (k : Nat) (hk : k < 10000) : Scalar.muli (Scf.iv 0#32 1#32 k) 16#32 = BitVec.ofNat 32 (16 * k) := by
  have : Scf.iv 0#32 1#32 k = BitVec.ofNat 32 k := by simp [Scf.iv]
  rw [this]
  apply BitVec.eq_of_toNat_eq
  show (BitVec.ofNat 32 k * 16#32).toNat = _
  simp [BitVec.toNat_mul]
  omega

/-- Casting sixteen lanes to their own shape. -/
theorem cast_lanes {α : Type} (v : S16.Idx → α) : shapeCast S16 v shapeCasts_S16_S16 = v :=
  shapeCast_id v _

end Cert.KernelIdeal.Fps
-- ==== Proof.Fps.Trips.lean ====
/- What the body's copies and loads read of rows named by coordinates, and one trip of each pass. -/
module

public import proofs.«01_k».proof.Proof.Fps.Setup

@[expose] public section

set_option maxRecDepth 65536

noncomputable section

namespace Cert.KernelIdeal.Fps

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S9600000 EltTy.f32)
local notation "oV" => (Memref.whole Cert.KernelIdeal.main_v1_scv : Memref Cert.KernelIdeal.sig Kind.scVector Space.hbm Cert.KernelIdeal.S32x16 EltTy.i32)
local notation "yB" => (Memref.whole Cert.KernelIdeal.cc0_scratch0 : Memref Cert.KernelIdeal.sig Kind.scVector Space.vmem Cert.KernelIdeal.S100000 EltTy.f32)
local notation "xB" => (Memref.whole Cert.KernelIdeal.cc0_scratch1 : Memref Cert.KernelIdeal.sig Kind.scVector Space.vmem Cert.KernelIdeal.S10000 EltTy.f32)
local notation "zB" => (Memref.whole Cert.KernelIdeal.cc0_scratch2 : Memref Cert.KernelIdeal.sig Kind.scVector Space.vmem Cert.KernelIdeal.S10000 EltTy.f32)
local notation "xW" => (Memref.whole Cert.KernelIdeal.cc0_scratch3 : Memref Cert.KernelIdeal.sig Kind.scVector Space.vmem Cert.KernelIdeal.S16 EltTy.f32)
local notation "zW" => (Memref.whole Cert.KernelIdeal.cc0_scratch4 : Memref Cert.KernelIdeal.sig Kind.scVector Space.vmem Cert.KernelIdeal.S16 EltTy.f32)
local notation "rB" => (Memref.whole Cert.KernelIdeal.cc0_scratch5 : Memref Cert.KernelIdeal.sig Kind.scVector Space.vmem Cert.KernelIdeal.S16 EltTy.i32)

variable (d : Dev nD) (L : grid0.Coords) (O : CellTallies nD τ sig (HIx 1)) (W : Waits sig (HIx 1))

/-- The row of the second coordinates, as the copy leaves it. -/
def ys (x : S9600000.Idx → F .f32) (b : Nat) : S100000.Idx → F .f32 := fun n => coord x b 1 (n 0).val

/-- A chunk of ten thousand of the coordinates `a`. -/
def chunk (x : S9600000.Idx → F .f32) (b a j : Nat) : S10000.Idx → F .f32 := fun n => coord x b a (10000 * j + (n 0).val)

/-- Sixteen values of the row that is held, read at position `p`. -/
theorem load_row (h : Nat → F .f32) (off : Fin 1 → Nat) (inb : ∀ a, off a + S16.size a ≤ S100000.size a) (p : Nat) (hp : off = ![p]) :
    View.readAt (Elt F) (yB).view (Rect.unit (s := S100000) off S16.size inb).toLoadRect (fun n : S100000.Idx => h (n 0).val) = lanes h p := by
  subst hp
  funext l
  show h (p + 1 * (l 0).val) = h (p + (l 0).val)
  rw [Nat.one_mul]

/-- A load of 16 words from the chunk of first coordinates reads 16 lanes of it. -/
theorem load_x (h : Nat → F .f32) (off : Fin 1 → Nat) (inb : ∀ a, off a + S16.size a ≤ S10000.size a) (p : Nat) (hp : off = ![p]) :
    View.readAt (Elt F) (xB).view (Rect.unit (s := S10000) off S16.size inb).toLoadRect (fun n : S10000.Idx => h (n 0).val) = lanes h p := by
  subst hp
  funext l
  show h (p + 1 * (l 0).val) = h (p + (l 0).val)
  rw [Nat.one_mul]

/-- A load of 16 words from the chunk of third coordinates reads 16 lanes of it. -/
theorem load_z (h : Nat → F .f32) (off : Fin 1 → Nat) (inb : ∀ a, off a + S16.size a ≤ S10000.size a) (p : Nat) (hp : off = ![p]) :
    View.readAt (Elt F) (zB).view (Rect.unit (s := S10000) off S16.size inb).toLoadRect (fun n : S10000.Idx => h (n 0).val) = lanes h p := by
  subst hp
  funext l
  show h (p + 1 * (l 0).val) = h (p + (l 0).val)
  rw [Nat.one_mul]

/-- A copy out of the flat array reads its words from the copy's start on. -/
theorem read_flat (x : S9600000.Idx → F .f32) (off size : Fin 1 → Nat) (inb : ∀ a, off a + size a ≤ S9600000.size a)
    (h : ∀ a, (Rect.unit (s := S9600000) off size inb).stride a = 1) (p : Nat) (hp : off = ![p]) :
    ((xV).slice (Rect.unit (s := S9600000) off size inb) h).view.read (Elt F) x = fun j => x (flat (p + (j 0).val)) := by
  subst hp
  funext j
  show x _ = x _
  congr 1
  funext a
  match a with
  | ⟨0, _⟩ =>
    apply Fin.ext
    have h1 : p + size 0 ≤ 9600000 := inb 0
    have h2 : (j 0).val < size 0 := (j 0).isLt
    show p + 1 * (j 0).val = (p + (j 0).val) % 9600000
    rw [Nat.one_mul, Nat.mod_eq_of_lt (by omega)]

variable [FloatOps F]

/-- One trip of a pass. -/
theorem trip (f : Nat → F .f32) (t : Nat) (val : FVec F S16 .f32) (hval : val = lanes f (16 * t)) (b : BitVec 32) (hb : b = BitVec.ofNat 32 (16 * t))
    (acc : FVec F S16 .f32 × IVec S16 32) (hacc : acc = scan f t) :
    (select (cmpf .ogt val acc.1) val acc.1,
      select (cmpf .ogt val acc.1) (addi (iota .scVector S16 32 [0] iota_S16_d0_w32_scVector) (broadcast S16 b)) acc.2) = scan f (t + 1) := by
  subst hacc hval
  rw [positions _ b hb]
  rfl

/-- The word of a chunk's trip. -/
theorem chunk_word (j k : Nat) (hk : k < 10000) :
    Scalar.addi (BitVec.ofNat 32 (10000 * j)) (Scalar.muli (Scf.iv 0#32 1#32 k) 16#32) = BitVec.ofNat 32 (16 * (625 * j + k)) := by
  rw [trip_word k hk]
  show BitVec.ofNat 32 (10000 * j) + BitVec.ofNat 32 (16 * k) = _
  rw [← BitVec.ofNat_add]
  congr 1
  omega

/-- The values of a chunk's trip, from what its three loads read. -/
theorem distances (x : S9600000.Idx → F .f32) (b j k : Nat) (w : BitVec 32)
    (cx cy cz : FVec F S16 .f32) (hcx : cx = broadcast S16 (centre x b 0 w)) (hcy : cy = broadcast S16 (centre x b 1 w))
    (hcz : cz = broadcast S16 (centre x b 2 w))
    (lx ly lz : FVec F S16 .f32) (hlx : lx = lanes (fun n => coord x b 0 (10000 * j + n)) (16 * k))
    (hly : ly = lanes (coord x b 1) (10000 * j + 16 * k)) (hlz : lz = lanes (fun n => coord x b 2 (10000 * j + n)) (16 * k)) :
    minimumf (addf (addf
        (mulf (subf (shapeCast S16 lx shapeCasts_S16_S16) cx) (subf (shapeCast S16 lx shapeCasts_S16_S16) cx))
        (mulf (subf (shapeCast S16 ly shapeCasts_S16_S16) cy) (subf (shapeCast S16 ly shapeCasts_S16_S16) cy)))
        (mulf (subf (shapeCast S16 lz shapeCasts_S16_S16) cz) (subf (shapeCast S16 lz shapeCasts_S16_S16) cz)))
      (broadcast S16 (Scalar.ofBits .f32 0x501502F9#32)) = lanes (dist x b w) (16 * (625 * j + k)) := by
  subst hcx hcy hcz hlx hly hlz
  rw [cast_lanes, cast_lanes, cast_lanes]
  funext l
  have h1 : 10000 * j + (16 * k + (l 0).val) = 16 * (625 * j + k) + (l 0).val := by omega
  have h2 : 10000 * j + 16 * k + (l 0).val = 16 * (625 * j + k) + (l 0).val := by omega
  show FloatOps.minimumf (FloatOps.addf (FloatOps.addf
      (FloatOps.mulf (FloatOps.subf (coord x b 0 (10000 * j + (16 * k + (l 0).val))) (centre x b 0 w)) (FloatOps.subf (coord x b 0 (10000 * j + (16 * k + (l 0).val))) (centre x b 0 w)))
      (FloatOps.mulf (FloatOps.subf (coord x b 1 (10000 * j + 16 * k + (l 0).val)) (centre x b 1 w)) (FloatOps.subf (coord x b 1 (10000 * j + 16 * k + (l 0).val)) (centre x b 1 w))))
      (FloatOps.mulf (FloatOps.subf (coord x b 2 (10000 * j + (16 * k + (l 0).val))) (centre x b 2 w)) (FloatOps.subf (coord x b 2 (10000 * j + (16 * k + (l 0).val))) (centre x b 2 w))))
    (Scalar.ofBits .f32 0x501502F9#32) = dist x b w (16 * (625 * j + k) + (l 0).val)
  rw [h1, h2]
  rfl

end Cert.KernelIdeal.Fps
-- ==== Proof.Fps.One.lean ====
/- The body's first part: the row of the second coordinates copied in, and the first pass over it. -/
module

public import proofs.«01_k».proof.Proof.Fps.Trips

@[expose] public section

set_option maxRecDepth 65536

noncomputable section

namespace Cert.KernelIdeal.Fps

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S9600000 EltTy.f32)
local notation "oV" => (Memref.whole Cert.KernelIdeal.main_v1_scv : Memref Cert.KernelIdeal.sig Kind.scVector Space.hbm Cert.KernelIdeal.S32x16 EltTy.i32)
local notation "yB" => (Memref.whole Cert.KernelIdeal.cc0_scratch0 : Memref Cert.KernelIdeal.sig Kind.scVector Space.vmem Cert.KernelIdeal.S100000 EltTy.f32)
local notation "xB" => (Memref.whole Cert.KernelIdeal.cc0_scratch1 : Memref Cert.KernelIdeal.sig Kind.scVector Space.vmem Cert.KernelIdeal.S10000 EltTy.f32)
local notation "zB" => (Memref.whole Cert.KernelIdeal.cc0_scratch2 : Memref Cert.KernelIdeal.sig Kind.scVector Space.vmem Cert.KernelIdeal.S10000 EltTy.f32)
local notation "xW" => (Memref.whole Cert.KernelIdeal.cc0_scratch3 : Memref Cert.KernelIdeal.sig Kind.scVector Space.vmem Cert.KernelIdeal.S16 EltTy.f32)
local notation "zW" => (Memref.whole Cert.KernelIdeal.cc0_scratch4 : Memref Cert.KernelIdeal.sig Kind.scVector Space.vmem Cert.KernelIdeal.S16 EltTy.f32)
local notation "rB" => (Memref.whole Cert.KernelIdeal.cc0_scratch5 : Memref Cert.KernelIdeal.sig Kind.scVector Space.vmem Cert.KernelIdeal.S16 EltTy.i32)

variable (d : Dev nD) (L : grid0.Coords) (O : CellTallies nD τ sig (HIx 1)) (W : Waits sig (HIx 1))

variable (q : PosShare TreeShare) (x : S9600000.Idx → F .f32)
variable [FloatOps F]

/-- The first pass's invariant: the row held, the lanes' state after `k` trips. -/
def inv1 (k : Nat) (acc : FVec F S16 .f32 × IVec S16 32) : sProp 𝕄 :=
  iprop(⌜acc = scan (coord x (cloud L) 1) k⌝ ∗ (yB).view.loc (V d (cV L) (jV L)) ↦{fullShare} (ys x (cloud L) : Buf (Elt F) ((yB).view.loc (V d (cV L) (jV L)))))

/-- The copy of the cloud's second row leaves the second coordinates of its points. -/
theorem row_landed (f : S100000.Idx → F .f32) :
    View.write (Elt F) (yB).view f (((xV).slice (Rect.unit (s := S9600000) (k0_off1 L) S100000.size (k0_off1_inb L)) (fun _ => rfl)).view.read (Elt F) x) Finset.univ = ys x (cloud L) := by
  refine (View.write_whole_univ (Val := Elt F) cc0_scratch0 f _).trans ((read_flat x _ _ _ _ _ (k0_off1_eq L)).trans ?_)
  funext j
  show x _ = x _
  congr 2
  unfold cloud
  omega

/-- The first part: copies the row of second coordinates in, runs the first pass over it, and folds the first lanes.
    -/
theorem wp_part1 (v : FVec F S16 .f32) (w : IVec S16 32) (hv : v = (scan (coord x (cloud L) 1) 6250).1) (hw : w = (scan (coord x (cloud L) 1) 6250).2) :
    iprop(Transfers.MayWaits (V d (cV L) (jV L)) (none : HIx 1) O
        ∗ ((xV).view.loc (V d (cV L) (jV L)) ↦{q} (x : Buf (Elt F) ((xV).view.loc (V d (cV L) (jV L)))))
        ∗ (∃ f, (yB).view.loc (V d (cV L) (jV L)) ↦{fullShare} f)
        ∗ semVal (V d (cV L) (jV L), SemLoc.dma cc0_scoped0.sem) 0
        ∗ owed d L O W)
      ⊢ wp frame (wpE (defs₀ (F := F)) 𝒱₀ (V d (cV L) (jV L)) none) Set.univ (k0_part1 (F := F) L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23)
        fun r => iprop(⌜r = ⟨(iota .scVector S16 32 [0] iota_S16_d0_w32_scVector), (Scalar.muli (Scalar.addi (Scalar.muli (BitVec.ofNat 32 (L 1).val) 2#32) (BitVec.ofNat 32 (L 0).val)) 300000#32), (Scalar.addi (Scalar.addi (Scalar.muli (Scalar.addi (Scalar.muli (BitVec.ofNat 32 (L 1).val) 2#32) (BitVec.ofNat 32 (L 0).val)) 300000#32) 100000#32) 100000#32), v, w, (w (lane 0)), (above v w 0), (equal v w 0), (w (lane 1)), (above v w 1), (equal v w 1), (fin v w 2).1, (fin v w 2).2, (v (lane 2)), (w (lane 2)), (above v w 2)⟩⌝
        ∗ ((xV).view.loc (V d (cV L) (jV L)) ↦{q} (x : Buf (Elt F) ((xV).view.loc (V d (cV L) (jV L)))))
        ∗ ((yB).view.loc (V d (cV L) (jV L)) ↦{fullShare} (ys x (cloud L) : Buf (Elt F) ((yB).view.loc (V d (cV L) (jV L)))))
        ∗ semVal (V d (cV L) (jV L), SemLoc.dma cc0_scoped0.sem) 0
        ∗ owed d L O W) := by
  rw [k0_part1_eq_skeleton]
  delta k0_part1_skel owed
  iintro ⟨#Hmw, Hx, ⟨%f, Hy⟩, Hsem, %W', %hW', HO⟩
  sl_exec (disch := exact View.amount_pos _ _ (show 0 < S100000.numel by decide))
  sl_for (inv1 d L x) $$ [Hy]
  case region =>
    intro k acc
    unfold inv1
    iintro ⟨%hacc, Hy⟩
    sl_exec
    sl_step
    isplitr
    · ipureintro
      exact trip (coord x (cloud L) 1) k.val _ ((cast_lanes _).trans (load_row _ _ _ _ (k0_off2_eq k))) _
        (trip_word k.val (k.isLt.trans_le (k0_t1_abs.2.1.trans (by decide)))) acc hacc
    · iexact Hy
  · unfold inv1
    isplitr
    · ipureintro
      rfl
    · iapply (Entails.of_eq (congrArg (fun f => ((yB).view.loc (V d (cV L) (jV L)) ↦{fullShare} f : sProp 𝕄)) (row_landed L x f)))
      iexact Hy
  iintro %acc HI
  unfold inv1
  icases HI with ⟨%hacc, Hy⟩
  have hacc' : acc = (v, w) := by
    rw [hv, hw]; exact hacc
  subst hacc'
  sl_exec
  sl_step
  isplitr
  · ipureintro
    delta wp_part1.sl.cst_3 wp_part1.sl.v0 wp_part1.sl.v1 wp_part1.sl.v13 wp_part1.sl.v14 wp_part1.sl.v15 wp_part1.sl.v16 wp_part1.sl.v17 wp_part1.sl.v18 wp_part1.sl.v2 wp_part1.sl.v20 wp_part1.sl.v24 wp_part1.sl.v25 wp_part1.sl.v26 wp_part1.sl.v27 wp_part1.sl.v28 wp_part1.sl.v29 wp_part1.sl.v3 wp_part1.sl.v31 wp_part1.sl.v35 wp_part1.sl.v36 wp_part1.sl.v4 wp_part1.sl.v5
    simp only [k0_pay8, k0_pay9, k0_pay10, k0_pay11, k0_pay12, k0_pay13, k0_pay14, k0_pay15, cut0, cut1, cut2, fin_one_fst, fin_one_snd, fin_succ_fst, fin_succ_snd, Nat.reduceAdd, above, equal, takes]
    rfl
  isplitl [Hx]
  · iexact Hx
  isplitl [Hy]
  · iexact Hy
  isplitl [Hsem]
  · iexact Hsem
  iexists _
  isplitr
  · ipureintro
    exact recorded hW' (SemLoc.dma cc0_scoped0.sem)
  · iexact HO

end Cert.KernelIdeal.Fps
-- ==== Proof.Fps.Picks.lean ====
/- Sixteen values read from a window, and the one that a word names: the body's chains of selects. -/
module

public import proofs.«01_k».proof.Proof.Fps.Trips

@[expose] public section

set_option maxRecDepth 65536

noncomputable section

namespace Cert.KernelIdeal.Fps

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S9600000 EltTy.f32)
local notation "oV" => (Memref.whole Cert.KernelIdeal.main_v1_scv : Memref Cert.KernelIdeal.sig Kind.scVector Space.hbm Cert.KernelIdeal.S32x16 EltTy.i32)
local notation "yB" => (Memref.whole Cert.KernelIdeal.cc0_scratch0 : Memref Cert.KernelIdeal.sig Kind.scVector Space.vmem Cert.KernelIdeal.S100000 EltTy.f32)
local notation "xB" => (Memref.whole Cert.KernelIdeal.cc0_scratch1 : Memref Cert.KernelIdeal.sig Kind.scVector Space.vmem Cert.KernelIdeal.S10000 EltTy.f32)
local notation "zB" => (Memref.whole Cert.KernelIdeal.cc0_scratch2 : Memref Cert.KernelIdeal.sig Kind.scVector Space.vmem Cert.KernelIdeal.S10000 EltTy.f32)
local notation "xW" => (Memref.whole Cert.KernelIdeal.cc0_scratch3 : Memref Cert.KernelIdeal.sig Kind.scVector Space.vmem Cert.KernelIdeal.S16 EltTy.f32)
local notation "zW" => (Memref.whole Cert.KernelIdeal.cc0_scratch4 : Memref Cert.KernelIdeal.sig Kind.scVector Space.vmem Cert.KernelIdeal.S16 EltTy.f32)
local notation "rB" => (Memref.whole Cert.KernelIdeal.cc0_scratch5 : Memref Cert.KernelIdeal.sig Kind.scVector Space.vmem Cert.KernelIdeal.S16 EltTy.i32)

variable (d : Dev nD) (L : grid0.Coords) (O : CellTallies nD τ sig (HIx 1)) (W : Waits sig (HIx 1))

variable [FloatOps F]
variable (k : BitVec 32) (v : FVec F S16 .f32)

/-- The loaded window of first coordinates is the window. -/
theorem pay55 : k0_pay55 (F := F) v = v := cast_lanes v

/-- The pick of the first coordinate, as far as lane 8. -/
theorem pay56 : k0_pay56 (F := F) k v = pick v k 8 := by
  unfold k0_pay56
  rw [pay55]
  simp only [cut0, cut1, cut2, cut3, cut4, cut5, cut6, cut7, cut8, cut9, cut10, cut11, cut12, cut13, cut14, cut15]
  rfl

/-- The pick of the first coordinate from lane 9 to the end, in every lane. -/
theorem pay57 : k0_pay57 (F := F) k v (pick v k 8) 9#32 = broadcast S16 (pick v k 15) := by
  unfold k0_pay57
  simp only [cut0, cut1, cut2, cut3, cut4, cut5, cut6, cut7, cut8, cut9, cut10, cut11, cut12, cut13, cut14, cut15]
  rfl

/-- The loaded window of third coordinates is the window. -/
theorem pay58 : k0_pay58 (F := F) v = v := cast_lanes v

/-- The pick of the third coordinate, as far as lane 4. -/
theorem pay59 : k0_pay59 (F := F) k v = pick v k 4 := by
  unfold k0_pay59
  rw [pay58]
  simp only [cut0, cut1, cut2, cut3, cut4, cut5, cut6, cut7, cut8, cut9, cut10, cut11, cut12, cut13, cut14, cut15]
  rfl

/-- The pick of the third coordinate from lane 5 to the end, in every lane. -/
theorem pay60 : k0_pay60 (F := F) k v (pick v k 4) = broadcast S16 (pick v k 15) := by
  unfold k0_pay60
  simp only [cut0, cut1, cut2, cut3, cut4, cut5, cut6, cut7, cut8, cut9, cut10, cut11, cut12, cut13, cut14, cut15]
  rfl

/-- The loaded window of second coordinates is the window. -/
theorem pay61 : k0_pay61 (F := F) v = v := cast_lanes v

/-- The pick of the second coordinate, as far as lane 11. -/
theorem pay63 : k0_pay63 (F := F) k v (k0_pay62 v) = pick v k 11 := by
  unfold k0_pay63 k0_pay62
  rw [pay61]
  simp only [cut0, cut1, cut2, cut3, cut4, cut5, cut6, cut7, cut8, cut9, cut10, cut11, cut12, cut13, cut14, cut15]
  rfl

/-- Lane 12 of the window of second coordinates. -/
theorem pay64 : k0_pay64 (F := F) v = v (lane 12) := cut12 v _ _

/-- The pick of the second coordinate from lane 12 to the end, in every lane. -/
theorem pay65 : k0_pay65 (F := F) k v (pick v k 11) (Scalar.cmpi .eq k 12#32) (v (lane 12)) = broadcast S16 (pick v k 15) := by
  unfold k0_pay65
  simp only [cut0, cut1, cut2, cut3, cut4, cut5, cut6, cut7, cut8, cut9, cut10, cut11, cut12, cut13, cut14, cut15]
  rfl

end Cert.KernelIdeal.Fps
-- ==== Proof.Fps.Centre.lean ====
/- The body's middle parts: the windows around the first sample copied in and the sample's coordinates read from them. -/
module

public import proofs.«01_k».proof.Proof.Fps.Picks

@[expose] public section

set_option maxRecDepth 65536

noncomputable section

namespace Cert.KernelIdeal.Fps

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S9600000 EltTy.f32)
local notation "oV" => (Memref.whole Cert.KernelIdeal.main_v1_scv : Memref Cert.KernelIdeal.sig Kind.scVector Space.hbm Cert.KernelIdeal.S32x16 EltTy.i32)
local notation "yB" => (Memref.whole Cert.KernelIdeal.cc0_scratch0 : Memref Cert.KernelIdeal.sig Kind.scVector Space.vmem Cert.KernelIdeal.S100000 EltTy.f32)
local notation "xB" => (Memref.whole Cert.KernelIdeal.cc0_scratch1 : Memref Cert.KernelIdeal.sig Kind.scVector Space.vmem Cert.KernelIdeal.S10000 EltTy.f32)
local notation "zB" => (Memref.whole Cert.KernelIdeal.cc0_scratch2 : Memref Cert.KernelIdeal.sig Kind.scVector Space.vmem Cert.KernelIdeal.S10000 EltTy.f32)
local notation "xW" => (Memref.whole Cert.KernelIdeal.cc0_scratch3 : Memref Cert.KernelIdeal.sig Kind.scVector Space.vmem Cert.KernelIdeal.S16 EltTy.f32)
local notation "zW" => (Memref.whole Cert.KernelIdeal.cc0_scratch4 : Memref Cert.KernelIdeal.sig Kind.scVector Space.vmem Cert.KernelIdeal.S16 EltTy.f32)
local notation "rB" => (Memref.whole Cert.KernelIdeal.cc0_scratch5 : Memref Cert.KernelIdeal.sig Kind.scVector Space.vmem Cert.KernelIdeal.S16 EltTy.i32)

variable (d : Dev nD) (L : grid0.Coords) (O : CellTallies nD τ sig (HIx 1)) (W : Waits sig (HIx 1))

/-- A window's load reads all sixteen values. -/
theorem load_xW (f : S16.Idx → F .f32) (inb : ∀ a, (![0] : Fin 1 → Nat) a + S16.size a ≤ S16.size a) :
    View.readAt (Elt F) (xW).view (Rect.unit (s := S16) ![0] S16.size inb).toLoadRect f = f := by
  funext l
  show f _ = f l
  congr 1
  funext a
  match a with
  | ⟨0, _⟩ => exact Fin.ext (show 0 + 1 * (l 0).val = (l 0).val by omega)

/-- A load of the whole window of third coordinates reads the window as it is. -/
theorem load_zW (f : S16.Idx → F .f32) (inb : ∀ a, (![0] : Fin 1 → Nat) a + S16.size a ≤ S16.size a) :
    View.readAt (Elt F) (zW).view (Rect.unit (s := S16) ![0] S16.size inb).toLoadRect f = f := by
  funext l
  show f _ = f l
  congr 1
  funext a
  match a with
  | ⟨0, _⟩ => exact Fin.ext (show 0 + 1 * (l 0).val = (l 0).val by omega)

/-- What a window's copy leaves. -/
theorem window_x (x : S9600000.Idx → F .f32) (f : S16.Idx → F .f32) (b n : Nat) (off : Fin 1 → Nat) (inb : ∀ a, off a + S16.size a ≤ S9600000.size a)
    (h : ∀ a, (Rect.unit (s := S9600000) off S16.size inb).stride a = 1) (hp : off = ![300000 * b + 0 + n]) :
    View.write (Elt F) (xW).view f (((xV).slice (Rect.unit (s := S9600000) off S16.size inb) h).view.read (Elt F) x) Finset.univ = lanes (coord x b 0) n := by
  refine (View.write_whole_univ (Val := Elt F) cc0_scratch3 f _).trans ((read_flat x _ _ _ _ _ hp).trans ?_)
  funext j
  show x _ = x _
  congr 2
  omega

/-- A copy of 16 words from the cloud's third row, from position `n` on, leaves the third coordinates of the points
    from `n` on. -/
theorem window_z (x : S9600000.Idx → F .f32) (f : S16.Idx → F .f32) (b n : Nat) (off : Fin 1 → Nat) (inb : ∀ a, off a + S16.size a ≤ S9600000.size a)
    (h : ∀ a, (Rect.unit (s := S9600000) off S16.size inb).stride a = 1) (hp : off = ![300000 * b + 200000 + n]) :
    View.write (Elt F) (zW).view f (((xV).slice (Rect.unit (s := S9600000) off S16.size inb) h).view.read (Elt F) x) Finset.univ = lanes (coord x b 2) n := by
  refine (View.write_whole_univ (Val := Elt F) cc0_scratch4 f _).trans ((read_flat x _ _ _ _ _ hp).trans ?_)
  funext j
  show x _ = x _
  congr 2
  omega

variable (q : PosShare TreeShare) (x : S9600000.Idx → F .f32)
variable [FloatOps F]
variable (v : FVec F S16 .f32) (w : IVec S16 32) (v3 v5 v205 k : BitVec 32)

/-- The fifth part: copies the two windows around the first sample in, and begins to pick the sample's first
    coordinate. -/
theorem wp_part5 (hw : (fin v w 16).2.toNat ≤ 100000) (hc : k0_chk1 L (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15)) :
    iprop(Transfers.MayWaits (V d (cV L) (jV L)) (none : HIx 1) O ∗ ((xV).view.loc (V d (cV L) (jV L)) ↦{q} (x : Buf (Elt F) ((xV).view.loc (V d (cV L) (jV L))))) ∗ (∃ f, (xW).view.loc (V d (cV L) (jV L)) ↦{fullShare} f) ∗ (∃ f, (zW).view.loc (V d (cV L) (jV L)) ↦{fullShare} f)
        ∗ semVal (V d (cV L) (jV L), SemLoc.dma cc0_scoped1.sem) 0 ∗ semVal (V d (cV L) (jV L), SemLoc.dma cc0_scoped2.sem) 0 ∗ owed d L O W)
      ⊢ wp frame (wpE (defs₀ (F := F)) 𝒱₀ (V d (cV L) (jV L)) none) Set.univ (k0_part5 (F := F) L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 v3 v5 (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15) hc v205 k)
        fun r => iprop(⌜r = ⟨lanes (coord x (cloud L) 0) (base (fin v w 16).2), pick (lanes (coord x (cloud L) 0) (base (fin v w 16).2)) k 8, 9#32⟩⌝
        ∗ ((xV).view.loc (V d (cV L) (jV L)) ↦{q} (x : Buf (Elt F) ((xV).view.loc (V d (cV L) (jV L))))) ∗ (∃ f, (xW).view.loc (V d (cV L) (jV L)) ↦{fullShare} f) ∗ ((zW).view.loc (V d (cV L) (jV L)) ↦{fullShare} (lanes (coord x (cloud L) 2) (base (fin v w 16).2) : Buf (Elt F) ((zW).view.loc (V d (cV L) (jV L)))))
        ∗ semVal (V d (cV L) (jV L), SemLoc.dma cc0_scoped1.sem) 0 ∗ semVal (V d (cV L) (jV L), SemLoc.dma cc0_scoped2.sem) 0 ∗ owed d L O W) := by
  rw [k0_part5_eq_skeleton]
  delta k0_part5_skel owed
  iintro ⟨#Hmw, Hx, ⟨%f, Ha⟩, ⟨%g, Hb⟩, H1, H2, %W', %hW', HO⟩
  sl_exec (disch := exact View.amount_pos _ _ (show 0 < S16.numel by decide))
  sl_step
  isplitr
  · ipureintro
    have e := (load_xW _ inb_S16_S16_0).trans (window_x x f (cloud L) _ _ (k0_off3_inb L (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15) hc) (fun _ => rfl) (off3 L v w hw))
    refine (congrArg₂ (fun a b => (⟨a, b, 9#32⟩ : Σ' (_ : FVec F S16 .f32) (_ : F .f32), BitVec 32)) (pay55 _) (pay56 k _)).trans ?_
    exact congrArg (fun a => (⟨a, pick a k 8, 9#32⟩ : Σ' (_ : FVec F S16 .f32) (_ : F .f32), BitVec 32)) e
  isplitl [Hx]
  · iexact Hx
  isplitl [Ha]
  · iexists _
    iexact Ha
  isplitl [Hb]
  · iapply (Entails.of_eq (congrArg (fun f => ((zW).view.loc (V d (cV L) (jV L)) ↦{fullShare} f : sProp 𝕄)) (window_z x g (cloud L) _ _ (k0_off4_inb L (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15) hc) (fun _ => rfl) (off4 L v w hw))))
    iexact Hb
  isplitl [H1]
  · iexact H1
  isplitl [H2]
  · iexact H2
  iexists _
  isplitr
  · ipureintro
    exact (recorded (recorded hW' (SemLoc.dma cc0_scoped1.sem)) (SemLoc.dma cc0_scoped2.sem))
  · iexact HO

/-- The sixth part: ends the pick of the first coordinate, loads the window of third coordinates and begins the pick
    there. -/
theorem wp_part6 (a : FVec F S16 .f32) (b : FVec F S16 .f32) :
    (((zW).view.loc (V d (cV L) (jV L)) ↦{fullShare} (b : Buf (Elt F) ((zW).view.loc (V d (cV L) (jV L))))) : sProp 𝕄)
      ⊢ wp frame (wpE (defs₀ (F := F)) 𝒱₀ (V d (cV L) (jV L)) none) Set.univ (k0_part6 (F := F) L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 k a (pick a k 8) 9#32)
        fun r => iprop(⌜r = ⟨broadcast S16 (pick a k 15), b, pick b k 4⟩⌝ ∗ ((zW).view.loc (V d (cV L) (jV L)) ↦{fullShare} (b : Buf (Elt F) ((zW).view.loc (V d (cV L) (jV L)))))) := by
  rw [k0_part6_eq_skeleton]
  delta k0_part6_skel
  iintro Hb
  sl_exec
  sl_step
  isplitr
  · ipureintro
    rw [load_zW, pay57, pay58, pay59]
  iexact Hb

/-- The seventh part: ends the pick of the third coordinate and loads the second coordinates' window from the row that
    is already there. -/
theorem wp_part7 (hw : (fin v w 16).2.toNat ≤ 100000) (hc : k0_chk1 L (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15)) (b : FVec F S16 .f32) :
    (((yB).view.loc (V d (cV L) (jV L)) ↦{fullShare} (ys x (cloud L) : Buf (Elt F) ((yB).view.loc (V d (cV L) (jV L))))) : sProp 𝕄)
      ⊢ wp frame (wpE (defs₀ (F := F)) 𝒱₀ (V d (cV L) (jV L)) none) Set.univ (k0_part7 (F := F) L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15) hc v205 k b (pick b k 4))
        fun r => iprop(⌜r = ⟨broadcast S16 (pick b k 15), lanes (coord x (cloud L) 1) (base (fin v w 16).2), k0_pay62 (lanes (coord x (cloud L) 1) (base (fin v w 16).2))⟩⌝ ∗ ((yB).view.loc (V d (cV L) (jV L)) ↦{fullShare} (ys x (cloud L) : Buf (Elt F) ((yB).view.loc (V d (cV L) (jV L)))))) := by
  rw [k0_part7_eq_skeleton]
  delta k0_part7_skel
  iintro Hb
  sl_exec
  sl_step
  isplitr
  · ipureintro
    have e := load_row (coord x (cloud L) 1) _ (k0_off5_inb L (w (lane 0)) (above v w 0) (equal v w 0) (w (lane 1)) (above v w 1) (equal v w 1) (w (lane 2)) (above v w 2) (equal v w 2) (w (lane 3)) (above v w 3) (equal v w 3) (w (lane 4)) (above v w 4) (equal v w 4) (w (lane 5)) (above v w 5) (equal v w 5) (w (lane 6)) (above v w 6) (equal v w 6) (w (lane 7)) (above v w 7) (equal v w 7) (w (lane 8)) (above v w 8) (equal v w 8) (w (lane 9)) (above v w 9) (equal v w 9) (w (lane 10)) (above v w 10) (equal v w 10) (w (lane 11)) (above v w 11) (equal v w 11) (w (lane 12)) (above v w 12) (equal v w 12) (w (lane 13)) (above v w 13) (equal v w 13) (w (lane 14)) (above v w 14) (equal v w 14) (w (lane 15)) (above v w 15) (equal v w 15) hc) _ (off5 v w hw)
    refine (congrArg (fun a => (⟨k0_pay60 k b (pick b k 4), k0_pay61 a, k0_pay62 a⟩ : Σ' (_ : FVec F S16 .f32) (_ : FVec F S16 .f32), FVec F S1 .f32)) e).trans ?_
    rw [pay60, pay61]
  iexact Hb

/-- The eighth part moves no data: it carries the pick of the second coordinate on to lane 11. -/
theorem eq_part8 (a : FVec F S16 .f32) :
    k0_part8 (F := F) L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 k a (k0_pay62 a) = pure ⟨pick a k 11, Scalar.cmpi .eq k 12#32, a (lane 12)⟩ := by
  rw [k0_part8_eq_skeleton]
  delta k0_part8_skel
  dsimp only
  rw [pay63, pay64]

end Cert.KernelIdeal.Fps
-- ==== Proof.Fps.Nine.lean ====
/- The body's ninth part: the first chunk's pass. -/
module

public import proofs.«01_k».proof.Proof.Fps.Trips

@[expose] public section

set_option maxRecDepth 65536

noncomputable section

namespace Cert.KernelIdeal.Fps

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S9600000 EltTy.f32)
local notation "oV" => (Memref.whole Cert.KernelIdeal.main_v1_scv : Memref Cert.KernelIdeal.sig Kind.scVector Space.hbm Cert.KernelIdeal.S32x16 EltTy.i32)
local notation "yB" => (Memref.whole Cert.KernelIdeal.cc0_scratch0 : Memref Cert.KernelIdeal.sig Kind.scVector Space.vmem Cert.KernelIdeal.S100000 EltTy.f32)
local notation "xB" => (Memref.whole Cert.KernelIdeal.cc0_scratch1 : Memref Cert.KernelIdeal.sig Kind.scVector Space.vmem Cert.KernelIdeal.S10000 EltTy.f32)
local notation "zB" => (Memref.whole Cert.KernelIdeal.cc0_scratch2 : Memref Cert.KernelIdeal.sig Kind.scVector Space.vmem Cert.KernelIdeal.S10000 EltTy.f32)
local notation "xW" => (Memref.whole Cert.KernelIdeal.cc0_scratch3 : Memref Cert.KernelIdeal.sig Kind.scVector Space.vmem Cert.KernelIdeal.S16 EltTy.f32)
local notation "zW" => (Memref.whole Cert.KernelIdeal.cc0_scratch4 : Memref Cert.KernelIdeal.sig Kind.scVector Space.vmem Cert.KernelIdeal.S16 EltTy.f32)
local notation "rB" => (Memref.whole Cert.KernelIdeal.cc0_scratch5 : Memref Cert.KernelIdeal.sig Kind.scVector Space.vmem Cert.KernelIdeal.S16 EltTy.i32)

variable (d : Dev nD) (L : grid0.Coords) (O : CellTallies nD τ sig (HIx 1)) (W : Waits sig (HIx 1))

variable (q : PosShare TreeShare) (x : S9600000.Idx → F .f32)
variable [FloatOps F]
variable (v3 v5 w : BitVec 32)

/-- What a chunk's copies leave. -/
theorem chunk_x (f : S10000.Idx → F .f32) (j : Fin 10) (off : Fin 1 → Nat) (inb : ∀ a, off a + S10000.size a ≤ S9600000.size a)
    (h : ∀ a, (Rect.unit (s := S9600000) off S10000.size inb).stride a = 1) (hp : off = ![600000 * (L 1).val + 300000 * (L 0).val + 10000 * j.val]) :
    View.write (Elt F) (xB).view f (((xV).slice (Rect.unit (s := S9600000) off S10000.size inb) h).view.read (Elt F) x) Finset.univ = chunk x (cloud L) 0 j.val := by
  refine (View.write_whole_univ (Val := Elt F) cc0_scratch1 f _).trans ((read_flat x _ _ _ _ _ hp).trans ?_)
  funext n
  show x _ = x _
  congr 2
  unfold cloud
  omega

/-- A copy of chunk `j` of the cloud's third row leaves the third coordinates of the chunk's points. -/
theorem chunk_z (f : S10000.Idx → F .f32) (j : Fin 10) (off : Fin 1 → Nat) (inb : ∀ a, off a + S10000.size a ≤ S9600000.size a)
    (h : ∀ a, (Rect.unit (s := S9600000) off S10000.size inb).stride a = 1) (hp : off = ![600000 * (L 1).val + 300000 * (L 0).val + 10000 * j.val + 200000]) :
    View.write (Elt F) (zB).view f (((xV).slice (Rect.unit (s := S9600000) off S10000.size inb) h).view.read (Elt F) x) Finset.univ = chunk x (cloud L) 2 j.val := by
  refine (View.write_whole_univ (Val := Elt F) cc0_scratch2 f _).trans ((read_flat x _ _ _ _ _ hp).trans ?_)
  funext n
  show x _ = x _
  congr 2
  unfold cloud
  omega

/-- The second pass's invariant on a chunk: the chunk's two rows held, the row of second coordinates held, the lanes' state. -/
def inv2 (j k : Nat) (acc : FVec F S16 .f32 × IVec S16 32) : sProp 𝕄 :=
  iprop(⌜acc = scan (dist x (cloud L) w) (625 * j + k)⌝ ∗ ((xB).view.loc (V d (cV L) (jV L)) ↦{fullShare} (chunk x (cloud L) 0 j : Buf (Elt F) ((xB).view.loc (V d (cV L) (jV L))))) ∗ ((zB).view.loc (V d (cV L) (jV L)) ↦{fullShare} (chunk x (cloud L) 2 j : Buf (Elt F) ((zB).view.loc (V d (cV L) (jV L))))) ∗ ((yB).view.loc (V d (cV L) (jV L)) ↦{fullShare} (ys x (cloud L) : Buf (Elt F) ((yB).view.loc (V d (cV L) (jV L))))))

variable (k : BitVec 32) (a : FVec F S16 .f32) (r : F .f32) (c : BitVec 1) (s : F .f32)

set_option maxHeartbeats 2000000 in
/-- The ninth part: copies the first chunk in and ends with the second pass after 625 trips. -/
theorem wp_part9 (hcy : k0_pay65 k a r c s = (broadcast S16 (centre x (cloud L) 1 w))) :
    iprop(Transfers.MayWaits (V d (cV L) (jV L)) (none : HIx 1) O ∗ ((xV).view.loc (V d (cV L) (jV L)) ↦{q} (x : Buf (Elt F) ((xV).view.loc (V d (cV L) (jV L))))) ∗ ((yB).view.loc (V d (cV L) (jV L)) ↦{fullShare} (ys x (cloud L) : Buf (Elt F) ((yB).view.loc (V d (cV L) (jV L))))) ∗ (∃ f, (xB).view.loc (V d (cV L) (jV L)) ↦{fullShare} f) ∗ (∃ f, (zB).view.loc (V d (cV L) (jV L)) ↦{fullShare} f)
         ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0 ∗ semVal (V d (cV L) (jV L), SemLoc.dma cc0_scoped6.sem) 0 ∗ owed d L O W)
      ⊢ wp frame (wpE (defs₀ (F := F)) 𝒱₀ (V d (cV L) (jV L)) none) Set.univ (k0_part9 (F := F) L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 (iota .scVector S16 32 [0] iota_S16_d0_w32_scVector) v3 v5 k (broadcast S16 (centre x (cloud L) 0 w)) (broadcast S16 (centre x (cloud L) 2 w)) a r c s)
        fun r => iprop(⌜r = ⟨(broadcast S16 (centre x (cloud L) 1 w)), (scan (dist x (cloud L) w) 625).1, (scan (dist x (cloud L) w) 625).2, 0#32⟩⌝
        ∗ ((xV).view.loc (V d (cV L) (jV L)) ↦{q} (x : Buf (Elt F) ((xV).view.loc (V d (cV L) (jV L))))) ∗ ((yB).view.loc (V d (cV L) (jV L)) ↦{fullShare} (ys x (cloud L) : Buf (Elt F) ((yB).view.loc (V d (cV L) (jV L))))) ∗ ((xB).view.loc (V d (cV L) (jV L)) ↦{fullShare} (chunk x (cloud L) 0 1 : Buf (Elt F) ((xB).view.loc (V d (cV L) (jV L))))) ∗ ((zB).view.loc (V d (cV L) (jV L)) ↦{fullShare} (chunk x (cloud L) 2 1 : Buf (Elt F) ((zB).view.loc (V d (cV L) (jV L)))))
         ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0 ∗ semVal (V d (cV L) (jV L), SemLoc.dma cc0_scoped6.sem) 0 ∗ owed d L O W) := by
  rw [k0_part9_eq_skeleton]
  delta k0_part9_skel owed
  iintro ⟨#Hmw, Hx, Hy, ⟨%f, Hxb⟩, ⟨%g, Hzb⟩, H3, H4, H5, H6, %W', %hW', HO⟩
  sl_exec (disch := exact View.amount_pos _ _ (show 0 < S10000.numel by decide))
  sl_for (inv2 d L x w 0) $$ [Hxb Hzb Hy]
  case region =>
    intro k acc
    unfold inv2
    iintro ⟨%hacc, Hxb, Hzb, Hy⟩
    sl_exec
    sl_step
    isplitr
    · ipureintro
      have hk : k.val < 625 := k.isLt.trans_le (k0_t2_abs.2.1.trans (by decide))
      exact trip (dist x (cloud L) w) (625 * 0 + k.val) _ (distances x (cloud L) 0 k.val w _ _ _ rfl hcy rfl _ _ _
        (load_x _ _ _ _ (k0_off8_eq k))
        (load_row _ _ _ _ ((k0_off9_eq k).trans (congrArg (fun n : Nat => (![n] : Fin 1 → Nat)) (by omega))))
        (load_z _ _ _ _ (k0_off8_eq k))) _ (chunk_word 0 k.val (by omega)) acc hacc
    isplitl [Hxb]
    · iexact Hxb
    isplitl [Hzb]
    · iexact Hzb
    · iexact Hy
  · unfold inv2
    isplitr
    · ipureintro
      rfl
    isplitl [Hxb]
    · iapply (Entails.of_eq (congrArg (fun f => ((xB).view.loc (V d (cV L) (jV L)) ↦{fullShare} f : sProp 𝕄)) (chunk_x L x f 0 _ (k0_off6_inb L 0) (fun _ => rfl) (k0_off6_eq L 0))))
      iexact Hxb
    isplitl [Hzb]
    · iapply (Entails.of_eq (congrArg (fun f => ((zB).view.loc (V d (cV L) (jV L)) ↦{fullShare} f : sProp 𝕄)) (chunk_z L x g 0 _ (k0_off7_inb L 0) (fun _ => rfl) (k0_off7_eq L 0))))
      iexact Hzb
    · iexact Hy
  iintro %acc0 HI
  unfold inv2
  icases HI with ⟨%h0, Hxb, Hzb, Hy⟩
  obtain ⟨a0, b0⟩ := acc0
  have e0 : (a0, b0) = scan (dist x (cloud L) w) (625 * 1) := h0.trans (congrArg (scan (dist x (cloud L) w)) (show 625 * 0 + k0_t2_loop.trips = 625 * 1 by decide))
  sl_exec (disch := exact View.amount_pos _ _ (show 0 < S10000.numel by decide))
  sl_step
  isplitr
  · ipureintro
    have e1 : a0 = (scan (dist x (cloud L) w) 625).1 := congrArg Prod.fst e0
    have e2 : b0 = (scan (dist x (cloud L) w) 625).2 := congrArg Prod.snd e0
    rw [hcy, e1, e2]
  isplitl [Hx]
  · iexact Hx
  isplitl [Hy]
  · iexact Hy
  isplitl [Hxb]
  · iapply (Entails.of_eq (congrArg (fun f => ((xB).view.loc (V d (cV L) (jV L)) ↦{fullShare} f : sProp 𝕄)) (chunk_x L x _ 1 _ (k0_off6_inb L 1) (fun _ => rfl) (k0_off6_eq L 1))))
    iexact Hxb
  isplitl [Hzb]
  · iapply (Entails.of_eq (congrArg (fun f => ((zB).view.loc (V d (cV L) (jV L)) ↦{fullShare} f : sProp 𝕄)) (chunk_z L x _ 1 _ (k0_off7_inb L 1) (fun _ => rfl) (k0_off7_eq L 1))))
    iexact Hzb
  isplitl [H3]
  · iexact H3
  isplitl [H4]
  · iexact H4
  isplitl [H5]
  · iexact H5
  isplitl [H6]
  · iexact H6
  iexists _
  isplitr
  · ipureintro
    exact (recorded (recorded (recorded (recorded hW' (SemLoc.dma cc0_scoped3.sem)) (SemLoc.dma cc0_scoped4.sem)) (SemLoc.dma cc0_scoped5.sem)) (SemLoc.dma cc0_scoped6.sem))
  · iexact HO

end Cert.KernelIdeal.Fps
-- ==== Proof.Fps.Tenth.lean ====
/- The body's tenth part: passes over three chunks. -/
module

public import proofs.«01_k».proof.Proof.Fps.Nine

@[expose] public section

set_option maxRecDepth 65536

noncomputable section

namespace Cert.KernelIdeal.Fps

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S9600000 EltTy.f32)
local notation "oV" => (Memref.whole Cert.KernelIdeal.main_v1_scv : Memref Cert.KernelIdeal.sig Kind.scVector Space.hbm Cert.KernelIdeal.S32x16 EltTy.i32)
local notation "yB" => (Memref.whole Cert.KernelIdeal.cc0_scratch0 : Memref Cert.KernelIdeal.sig Kind.scVector Space.vmem Cert.KernelIdeal.S100000 EltTy.f32)
local notation "xB" => (Memref.whole Cert.KernelIdeal.cc0_scratch1 : Memref Cert.KernelIdeal.sig Kind.scVector Space.vmem Cert.KernelIdeal.S10000 EltTy.f32)
local notation "zB" => (Memref.whole Cert.KernelIdeal.cc0_scratch2 : Memref Cert.KernelIdeal.sig Kind.scVector Space.vmem Cert.KernelIdeal.S10000 EltTy.f32)
local notation "xW" => (Memref.whole Cert.KernelIdeal.cc0_scratch3 : Memref Cert.KernelIdeal.sig Kind.scVector Space.vmem Cert.KernelIdeal.S16 EltTy.f32)
local notation "zW" => (Memref.whole Cert.KernelIdeal.cc0_scratch4 : Memref Cert.KernelIdeal.sig Kind.scVector Space.vmem Cert.KernelIdeal.S16 EltTy.f32)
local notation "rB" => (Memref.whole Cert.KernelIdeal.cc0_scratch5 : Memref Cert.KernelIdeal.sig Kind.scVector Space.vmem Cert.KernelIdeal.S16 EltTy.i32)

variable (d : Dev nD) (L : grid0.Coords) (O : CellTallies nD τ sig (HIx 1)) (W : Waits sig (HIx 1))

variable (q : PosShare TreeShare) (x : S9600000.Idx → F .f32)
variable [FloatOps F]
variable (v3 v5 w : BitVec 32)

set_option maxHeartbeats 8000000 in
/-- The tenth part: from the second pass after 625 trips, three chunks more, to the pass after 2500 trips. -/
theorem wp_part10 (a : FVec F S16 .f32) (b : IVec S16 32) (h : (a, b) = scan (dist x (cloud L) w) 625) :
    iprop(Transfers.MayWaits (V d (cV L) (jV L)) (none : HIx 1) O ∗ ((xV).view.loc (V d (cV L) (jV L)) ↦{q} (x : Buf (Elt F) ((xV).view.loc (V d (cV L) (jV L))))) ∗ ((yB).view.loc (V d (cV L) (jV L)) ↦{fullShare} (ys x (cloud L) : Buf (Elt F) ((yB).view.loc (V d (cV L) (jV L))))) ∗ ((xB).view.loc (V d (cV L) (jV L)) ↦{fullShare} (chunk x (cloud L) 0 1 : Buf (Elt F) ((xB).view.loc (V d (cV L) (jV L))))) ∗ ((zB).view.loc (V d (cV L) (jV L)) ↦{fullShare} (chunk x (cloud L) 2 1 : Buf (Elt F) ((zB).view.loc (V d (cV L) (jV L)))))
         ∗ semVal (V d (cV L) (jV L), SemLoc.dma cc0_scoped7.sem) 0 ∗ semVal (V d (cV L) (jV L), SemLoc.dma cc0_scoped8.sem) 0 ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0 ∗ owed d L O W)
      ⊢ wp frame (wpE (defs₀ (F := F)) 𝒱₀ (V d (cV L) (jV L)) none) Set.univ (k0_part10 (F := F) L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 (iota .scVector S16 32 [0] iota_S16_d0_w32_scVector) v3 v5 (broadcast S16 (centre x (cloud L) 0 w)) (broadcast S16 (centre x (cloud L) 2 w)) (broadcast S16 (centre x (cloud L) 1 w)) a b 0#32)
        fun r => iprop(⌜r = ⟨(scan (dist x (cloud L) w) 2500).1, (scan (dist x (cloud L) w) 2500).2⟩⌝
        ∗ ((xV).view.loc (V d (cV L) (jV L)) ↦{q} (x : Buf (Elt F) ((xV).view.loc (V d (cV L) (jV L))))) ∗ ((yB).view.loc (V d (cV L) (jV L)) ↦{fullShare} (ys x (cloud L) : Buf (Elt F) ((yB).view.loc (V d (cV L) (jV L))))) ∗ ((xB).view.loc (V d (cV L) (jV L)) ↦{fullShare} (chunk x (cloud L) 0 4 : Buf (Elt F) ((xB).view.loc (V d (cV L) (jV L))))) ∗ (∃ f, (zB).view.loc (V d (cV L) (jV L)) ↦{fullShare} f)
         ∗ semVal (V d (cV L) (jV L), SemLoc.dma cc0_scoped7.sem) 0 ∗ semVal (V d (cV L) (jV L), SemLoc.dma cc0_scoped8.sem) 0 ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0 ∗ owed d L O W) := by
  rw [k0_part10_eq_skeleton]
  delta k0_part10_skel owed
  iintro ⟨#Hmw, Hx, Hy, Hxb, Hzb, H7, H8, H9, H10, H11, %W', %hW', HO⟩
  sl_for (inv2 d L x w 1) $$ [Hxb Hzb Hy]
  case region =>
    intro k acc
    unfold inv2
    iintro ⟨%hacc, Hxb, Hzb, Hy⟩
    sl_exec
    sl_step
    isplitr
    · ipureintro
      have hk : k.val < 625 := k.isLt.trans_le (k0_t3_abs.2.1.trans (by decide))
      exact trip (dist x (cloud L) w) (625 * 1 + k.val) _ (distances x (cloud L) 1 k.val w _ _ _ rfl rfl rfl _ _ _
        (load_x _ _ _ _ (k0_off10_eq k))
        (load_row _ _ _ _ ((k0_off11_eq k).trans (congrArg (fun n : Nat => (![n] : Fin 1 → Nat)) (by omega))))
        (load_z _ _ _ _ (k0_off10_eq k))) _ (chunk_word 1 k.val (by omega)) acc hacc
    isplitl [Hxb]
    · iexact Hxb
    isplitl [Hzb]
    · iexact Hzb
    · iexact Hy
  · unfold inv2
    isplitr
    · ipureintro
      exact h
    isplitl [Hxb]
    · iexact Hxb
    isplitl [Hzb]
    · iexact Hzb
    · iexact Hy
  iintro %acc1 HI
  unfold inv2
  icases HI with ⟨%h1, Hxb, Hzb, Hy⟩
  obtain ⟨a1, b1⟩ := acc1
  have e1 : (a1, b1) = scan (dist x (cloud L) w) (625 * 2) := h1.trans (congrArg (scan (dist x (cloud L) w)) (show 625 * 1 + k0_t3_loop.trips = 625 * 2 by decide))
  sl_exec (disch := exact View.amount_pos _ _ (show 0 < S10000.numel by decide))
  sl_for (inv2 d L x w 2) $$ [Hxb Hzb Hy]
  case region =>
    intro k acc
    unfold inv2
    iintro ⟨%hacc, Hxb, Hzb, Hy⟩
    sl_exec
    sl_step
    isplitr
    · ipureintro
      have hk : k.val < 625 := k.isLt.trans_le (k0_t4_abs.2.1.trans (by decide))
      exact trip (dist x (cloud L) w) (625 * 2 + k.val) _ (distances x (cloud L) 2 k.val w _ _ _ rfl rfl rfl _ _ _
        (load_x _ _ _ _ (k0_off12_eq k))
        (load_row _ _ _ _ ((k0_off13_eq k).trans (congrArg (fun n : Nat => (![n] : Fin 1 → Nat)) (by omega))))
        (load_z _ _ _ _ (k0_off12_eq k))) _ (chunk_word 2 k.val (by omega)) acc hacc
    isplitl [Hxb]
    · iexact Hxb
    isplitl [Hzb]
    · iexact Hzb
    · iexact Hy
  · unfold inv2
    isplitr
    · ipureintro
      exact e1
    isplitl [Hxb]
    · iapply (Entails.of_eq (congrArg (fun f => ((xB).view.loc (V d (cV L) (jV L)) ↦{fullShare} f : sProp 𝕄)) (chunk_x L x _ 2 _ (k0_off6_inb L 2) (fun _ => rfl) (k0_off6_eq L 2))))
      iexact Hxb
    isplitl [Hzb]
    · iapply (Entails.of_eq (congrArg (fun f => ((zB).view.loc (V d (cV L) (jV L)) ↦{fullShare} f : sProp 𝕄)) (chunk_z L x _ 2 _ (k0_off7_inb L 2) (fun _ => rfl) (k0_off7_eq L 2))))
      iexact Hzb
    · iexact Hy
  iintro %acc2 HI
  unfold inv2
  icases HI with ⟨%h2, Hxb, Hzb, Hy⟩
  obtain ⟨a2, b2⟩ := acc2
  have e2 : (a2, b2) = scan (dist x (cloud L) w) (625 * 3) := h2.trans (congrArg (scan (dist x (cloud L) w)) (show 625 * 2 + k0_t4_loop.trips = 625 * 3 by decide))
  sl_exec (disch := exact View.amount_pos _ _ (show 0 < S10000.numel by decide))
  sl_for (inv2 d L x w 3) $$ [Hxb Hzb Hy]
  case region =>
    intro k acc
    unfold inv2
    iintro ⟨%hacc, Hxb, Hzb, Hy⟩
    sl_exec
    sl_step
    isplitr
    · ipureintro
      have hk : k.val < 625 := k.isLt.trans_le (k0_t5_abs.2.1.trans (by decide))
      exact trip (dist x (cloud L) w) (625 * 3 + k.val) _ (distances x (cloud L) 3 k.val w _ _ _ rfl rfl rfl _ _ _
        (load_x _ _ _ _ (k0_off14_eq k))
        (load_row _ _ _ _ ((k0_off15_eq k).trans (congrArg (fun n : Nat => (![n] : Fin 1 → Nat)) (by omega))))
        (load_z _ _ _ _ (k0_off14_eq k))) _ (chunk_word 3 k.val (by omega)) acc hacc
    isplitl [Hxb]
    · iexact Hxb
    isplitl [Hzb]
    · iexact Hzb
    · iexact Hy
  · unfold inv2
    isplitr
    · ipureintro
      exact e2
    isplitl [Hxb]
    · iapply (Entails.of_eq (congrArg (fun f => ((xB).view.loc (V d (cV L) (jV L)) ↦{fullShare} f : sProp 𝕄)) (chunk_x L x _ 3 _ (k0_off6_inb L 3) (fun _ => rfl) (k0_off6_eq L 3))))
      iexact Hxb
    isplitl [Hzb]
    · iapply (Entails.of_eq (congrArg (fun f => ((zB).view.loc (V d (cV L) (jV L)) ↦{fullShare} f : sProp 𝕄)) (chunk_z L x _ 3 _ (k0_off7_inb L 3) (fun _ => rfl) (k0_off7_eq L 3))))
      iexact Hzb
    · iexact Hy
  iintro %acc3 HI
  unfold inv2
  icases HI with ⟨%h3, Hxb, Hzb, Hy⟩
  obtain ⟨a3, b3⟩ := acc3
  have e3 : (a3, b3) = scan (dist x (cloud L) w) (625 * 4) := h3.trans (congrArg (scan (dist x (cloud L) w)) (show 625 * 3 + k0_t5_loop.trips = 625 * 4 by decide))
  sl_exec (disch := exact View.amount_pos _ _ (show 0 < S10000.numel by decide))
  sl_step
  isplitr
  · ipureintro
    have e1 : a3 = (scan (dist x (cloud L) w) 2500).1 := congrArg Prod.fst e3
    have e2 : b3 = (scan (dist x (cloud L) w) 2500).2 := congrArg Prod.snd e3
    rw [e1, e2]
  isplitl [Hx]
  · iexact Hx
  isplitl [Hy]
  · iexact Hy
  isplitl [Hxb]
  · iapply (Entails.of_eq (congrArg (fun f => ((xB).view.loc (V d (cV L) (jV L)) ↦{fullShare} f : sProp 𝕄)) (chunk_x L x _ 4 _ (k0_off6_inb L 4) (fun _ => rfl) (k0_off6_eq L 4))))
    iexact Hxb
  isplitl [Hzb]
  · iexists _
    iexact Hzb
  isplitl [H7]
  · iexact H7
  isplitl [H8]
  · iexact H8
  isplitl [H9]
  · iexact H9
  isplitl [H10]
  · iexact H10
  isplitl [H11]
  · iexact H11
  iexists _
  isplitr
  · ipureintro
    exact (recorded (recorded (recorded (recorded (recorded hW' (SemLoc.dma cc0_scoped7.sem)) (SemLoc.dma cc0_scoped8.sem)) (SemLoc.dma cc0_scoped9.sem)) (SemLoc.dma cc0_scoped10.sem)) (SemLoc.dma cc0_scoped11.sem))
  · iexact HO

end Cert.KernelIdeal.Fps
-- ==== Proof.Fps.Eleventh.lean ====
/- The body's eleventh part: passes over three chunks. -/
module

public import proofs.«01_k».proof.Proof.Fps.Nine

@[expose] public section

set_option maxRecDepth 65536

noncomputable section

namespace Cert.KernelIdeal.Fps

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S9600000 EltTy.f32)
local notation "oV" => (Memref.whole Cert.KernelIdeal.main_v1_scv : Memref Cert.KernelIdeal.sig Kind.scVector Space.hbm Cert.KernelIdeal.S32x16 EltTy.i32)
local notation "yB" => (Memref.whole Cert.KernelIdeal.cc0_scratch0 : Memref Cert.KernelIdeal.sig Kind.scVector Space.vmem Cert.KernelIdeal.S100000 EltTy.f32)
local notation "xB" => (Memref.whole Cert.KernelIdeal.cc0_scratch1 : Memref Cert.KernelIdeal.sig Kind.scVector Space.vmem Cert.KernelIdeal.S10000 EltTy.f32)
local notation "zB" => (Memref.whole Cert.KernelIdeal.cc0_scratch2 : Memref Cert.KernelIdeal.sig Kind.scVector Space.vmem Cert.KernelIdeal.S10000 EltTy.f32)
local notation "xW" => (Memref.whole Cert.KernelIdeal.cc0_scratch3 : Memref Cert.KernelIdeal.sig Kind.scVector Space.vmem Cert.KernelIdeal.S16 EltTy.f32)
local notation "zW" => (Memref.whole Cert.KernelIdeal.cc0_scratch4 : Memref Cert.KernelIdeal.sig Kind.scVector Space.vmem Cert.KernelIdeal.S16 EltTy.f32)
local notation "rB" => (Memref.whole Cert.KernelIdeal.cc0_scratch5 : Memref Cert.KernelIdeal.sig Kind.scVector Space.vmem Cert.KernelIdeal.S16 EltTy.i32)

variable (d : Dev nD) (L : grid0.Coords) (O : CellTallies nD τ sig (HIx 1)) (W : Waits sig (HIx 1))

variable (q : PosShare TreeShare) (x : S9600000.Idx → F .f32)
variable [FloatOps F]
variable (v3 v5 w : BitVec 32)

/-- The copy of the eighth chunk of first coordinates, in flight: what its wait delivers, and the rest of the flat array. -/
def flying : sProp 𝕄 :=
  iprop(Transfers.Flight countersEmb (V d (cV L) (jV L)) (SemLoc.dma cc0_scoped17.sem) default 320000
      iprop(((xB).view.loc (V d (cV L) (jV L)) ↦{fullShare} (chunk x (cloud L) 0 7 : Buf (Elt F) ((xB).view.loc (V d (cV L) (jV L))))) ∗ ((xV).view.loc (V d (cV L) (jV L)) ↦[((xV).slice (Rect.unit (s := S9600000) (k0_off6 L 70000#32) S10000.size (k0_off6_inb L 7)) (fun _ => rfl)).view.set]{q} (x : Buf (Elt F) ((xV).view.loc (V d (cV L) (jV L))))))
    ∗ ((xV).view.loc (V d (cV L) (jV L)) ↦[Finset.univ \ ((xV).slice (Rect.unit (s := S9600000) (k0_off6 L 70000#32) S10000.size (k0_off6_inb L 7)) (fun _ => rfl)).view.set]{q} (x : Buf (Elt F) ((xV).view.loc (V d (cV L) (jV L))))))

set_option maxHeartbeats 8000000 in
/-- The eleventh part: from the second pass after 2500 trips, three chunks more, to the pass after 4375 trips. -/
theorem wp_part11 (a : FVec F S16 .f32) (b : IVec S16 32) (h : (a, b) = scan (dist x (cloud L) w) 2500) :
    iprop(Transfers.MayWaits (V d (cV L) (jV L)) (none : HIx 1) O ∗ ((xV).view.loc (V d (cV L) (jV L)) ↦{q} (x : Buf (Elt F) ((xV).view.loc (V d (cV L) (jV L))))) ∗ ((yB).view.loc (V d (cV L) (jV L)) ↦{fullShare} (ys x (cloud L) : Buf (Elt F) ((yB).view.loc (V d (cV L) (jV L))))) ∗ ((xB).view.loc (V d (cV L) (jV L)) ↦{fullShare} (chunk x (cloud L) 0 4 : Buf (Elt F) ((xB).view.loc (V d (cV L) (jV L))))) ∗ (∃ f, (zB).view.loc (V d (cV L) (jV L)) ↦{fullShare} f)
         ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0 ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0 ∗ owed d L O W)
      ⊢ wp frame (wpE (defs₀ (F := F)) 𝒱₀ (V d (cV L) (jV L)) none) Set.univ (k0_part11 (F := F) L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 (iota .scVector S16 32 [0] iota_S16_d0_w32_scVector) v3 v5 (broadcast S16 (centre x (cloud L) 0 w)) (broadcast S16 (centre x (cloud L) 2 w)) (broadcast S16 (centre x (cloud L) 1 w)) a b)
        fun r => iprop(⌜r = ⟨(scan (dist x (cloud L) w) 4375).1, (scan (dist x (cloud L) w) 4375).2⟩⌝
        ∗ ((yB).view.loc (V d (cV L) (jV L)) ↦{fullShare} (ys x (cloud L) : Buf (Elt F) ((yB).view.loc (V d (cV L) (jV L))))) ∗ flying d L q x ∗ (∃ f, (zB).view.loc (V d (cV L) (jV L)) ↦{fullShare} f)
         ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0 ∗ semVal (V d (cV L) (jV L), SemLoc.dma cc0_scoped15.sem) 0 ∗ semVal (V d (cV L) (jV L), SemLoc.dma cc0_scoped16.sem) 0 ∗ owed d L O W) := by
  rw [k0_part11_eq_skeleton]
  delta k0_part11_skel owed
  iintro ⟨#Hmw, Hx, Hy, Hxb, ⟨%g, Hzb⟩, H12, H13, H14, H15, H16, H17, %W', %hW', HO⟩
  sl_exec (disch := exact View.amount_pos _ _ (show 0 < S10000.numel by decide))
  sl_for (inv2 d L x w 4) $$ [Hxb Hzb Hy]
  case region =>
    intro k acc
    unfold inv2
    iintro ⟨%hacc, Hxb, Hzb, Hy⟩
    sl_exec
    sl_step
    isplitr
    · ipureintro
      have hk : k.val < 625 := k.isLt.trans_le (k0_t6_abs.2.1.trans (by decide))
      exact trip (dist x (cloud L) w) (625 * 4 + k.val) _ (distances x (cloud L) 4 k.val w _ _ _ rfl rfl rfl _ _ _
        (load_x _ _ _ _ (k0_off16_eq k))
        (load_row _ _ _ _ ((k0_off17_eq k).trans (congrArg (fun n : Nat => (![n] : Fin 1 → Nat)) (by omega))))
        (load_z _ _ _ _ (k0_off16_eq k))) _ (chunk_word 4 k.val (by omega)) acc hacc
    isplitl [Hxb]
    · iexact Hxb
    isplitl [Hzb]
    · iexact Hzb
    · iexact Hy
  · unfold inv2
    isplitr
    · ipureintro
      exact h
    isplitl [Hxb]
    · iexact Hxb
    isplitl [Hzb]
    · iapply (Entails.of_eq (congrArg (fun f => ((zB).view.loc (V d (cV L) (jV L)) ↦{fullShare} f : sProp 𝕄)) (chunk_z L x _ 4 _ (k0_off7_inb L 4) (fun _ => rfl) (k0_off7_eq L 4))))
      iexact Hzb
    · iexact Hy
  iintro %acc4 HI
  unfold inv2
  icases HI with ⟨%h4, Hxb, Hzb, Hy⟩
  obtain ⟨a4, b4⟩ := acc4
  have e4 : (a4, b4) = scan (dist x (cloud L) w) (625 * 5) := h4.trans (congrArg (scan (dist x (cloud L) w)) (show 625 * 4 + k0_t6_loop.trips = 625 * 5 by decide))
  sl_exec (disch := exact View.amount_pos _ _ (show 0 < S10000.numel by decide))
  sl_for (inv2 d L x w 5) $$ [Hxb Hzb Hy]
  case region =>
    intro k acc
    unfold inv2
    iintro ⟨%hacc, Hxb, Hzb, Hy⟩
    sl_exec
    sl_step
    isplitr
    · ipureintro
      have hk : k.val < 625 := k.isLt.trans_le (k0_t7_abs.2.1.trans (by decide))
      exact trip (dist x (cloud L) w) (625 * 5 + k.val) _ (distances x (cloud L) 5 k.val w _ _ _ rfl rfl rfl _ _ _
        (load_x _ _ _ _ (k0_off18_eq k))
        (load_row _ _ _ _ ((k0_off19_eq k).trans (congrArg (fun n : Nat => (![n] : Fin 1 → Nat)) (by omega))))
        (load_z _ _ _ _ (k0_off18_eq k))) _ (chunk_word 5 k.val (by omega)) acc hacc
    isplitl [Hxb]
    · iexact Hxb
    isplitl [Hzb]
    · iexact Hzb
    · iexact Hy
  · unfold inv2
    isplitr
    · ipureintro
      exact e4
    isplitl [Hxb]
    · iapply (Entails.of_eq (congrArg (fun f => ((xB).view.loc (V d (cV L) (jV L)) ↦{fullShare} f : sProp 𝕄)) (chunk_x L x _ 5 _ (k0_off6_inb L 5) (fun _ => rfl) (k0_off6_eq L 5))))
      iexact Hxb
    isplitl [Hzb]
    · iapply (Entails.of_eq (congrArg (fun f => ((zB).view.loc (V d (cV L) (jV L)) ↦{fullShare} f : sProp 𝕄)) (chunk_z L x _ 5 _ (k0_off7_inb L 5) (fun _ => rfl) (k0_off7_eq L 5))))
      iexact Hzb
    · iexact Hy
  iintro %acc5 HI
  unfold inv2
  icases HI with ⟨%h5, Hxb, Hzb, Hy⟩
  obtain ⟨a5, b5⟩ := acc5
  have e5 : (a5, b5) = scan (dist x (cloud L) w) (625 * 6) := h5.trans (congrArg (scan (dist x (cloud L) w)) (show 625 * 5 + k0_t7_loop.trips = 625 * 6 by decide))
  sl_exec (disch := exact View.amount_pos _ _ (show 0 < S10000.numel by decide))
  sl_for (inv2 d L x w 6) $$ [Hxb Hzb Hy]
  case region =>
    intro k acc
    unfold inv2
    iintro ⟨%hacc, Hxb, Hzb, Hy⟩
    sl_exec
    sl_step
    isplitr
    · ipureintro
      have hk : k.val < 625 := k.isLt.trans_le (k0_t8_abs.2.1.trans (by decide))
      exact trip (dist x (cloud L) w) (625 * 6 + k.val) _ (distances x (cloud L) 6 k.val w _ _ _ rfl rfl rfl _ _ _
        (load_x _ _ _ _ (k0_off20_eq k))
        (load_row _ _ _ _ ((k0_off21_eq k).trans (congrArg (fun n : Nat => (![n] : Fin 1 → Nat)) (by omega))))
        (load_z _ _ _ _ (k0_off20_eq k))) _ (chunk_word 6 k.val (by omega)) acc hacc
    isplitl [Hxb]
    · iexact Hxb
    isplitl [Hzb]
    · iexact Hzb
    · iexact Hy
  · unfold inv2
    isplitr
    · ipureintro
      exact e5
    isplitl [Hxb]
    · iapply (Entails.of_eq (congrArg (fun f => ((xB).view.loc (V d (cV L) (jV L)) ↦{fullShare} f : sProp 𝕄)) (chunk_x L x _ 6 _ (k0_off6_inb L 6) (fun _ => rfl) (k0_off6_eq L 6))))
      iexact Hxb
    isplitl [Hzb]
    · iapply (Entails.of_eq (congrArg (fun f => ((zB).view.loc (V d (cV L) (jV L)) ↦{fullShare} f : sProp 𝕄)) (chunk_z L x _ 6 _ (k0_off7_inb L 6) (fun _ => rfl) (k0_off7_eq L 6))))
      iexact Hzb
    · iexact Hy
  iintro %acc6 HI
  unfold inv2
  icases HI with ⟨%h6, Hxb, Hzb, Hy⟩
  obtain ⟨a6, b6⟩ := acc6
  have e6 : (a6, b6) = scan (dist x (cloud L) w) (625 * 7) := h6.trans (congrArg (scan (dist x (cloud L) w)) (show 625 * 6 + k0_t8_loop.trips = 625 * 7 by decide))
  sl_exec (disch := exact View.amount_pos _ _ (show 0 < S10000.numel by decide))
  sl_step
  isplitr
  · ipureintro
    have e1 : a6 = (scan (dist x (cloud L) w) 4375).1 := congrArg Prod.fst e6
    have e2 : b6 = (scan (dist x (cloud L) w) 4375).2 := congrArg Prod.snd e6
    rw [e1, e2]
  isplitl [Hy]
  · iexact Hy
  isplitl [H17 Hx]
  · unfold flying
    isplitl [H17]
    · iapply (Entails.of_eq (congrArg (fun f => (Transfers.Flight countersEmb (V d (cV L) (jV L)) (SemLoc.dma cc0_scoped17.sem) default 320000
        iprop(((xB).view.loc (V d (cV L) (jV L)) ↦{fullShare} f) ∗ (xV).view.loc (V d (cV L) (jV L)) ↦[((xV).slice (Rect.unit (s := S9600000) (k0_off6 L 70000#32) S10000.size (k0_off6_inb L 7)) (fun _ => rfl)).view.set]{q} x) : sProp 𝕄)) (chunk_x L x _ 7 _ (k0_off6_inb L 7) (fun _ => rfl) (k0_off6_eq L 7))))
      iexact H17
    · iexact Hx
  isplitl [Hzb]
  · iexists _
    iexact Hzb
  isplitl [H12]
  · iexact H12
  isplitl [H13]
  · iexact H13
  isplitl [H14]
  · iexact H14
  isplitl [H15]
  · iexact H15
  isplitl [H16]
  · iexact H16
  iexists _
  isplitr
  · ipureintro
    exact (recorded (recorded (recorded (recorded (recorded hW' (SemLoc.dma cc0_scoped12.sem)) (SemLoc.dma cc0_scoped13.sem)) (SemLoc.dma cc0_scoped14.sem)) (SemLoc.dma cc0_scoped15.sem)) (SemLoc.dma cc0_scoped16.sem))
  · iexact HO

end Cert.KernelIdeal.Fps
-- ==== Proof.Fps.Twelfth.lean ====
/- The body's twelfth part: passes over three chunks. -/
module

public import proofs.«01_k».proof.Proof.Fps.Eleventh

@[expose] public section

set_option maxRecDepth 65536

noncomputable section

namespace Cert.KernelIdeal.Fps

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S9600000 EltTy.f32)
local notation "oV" => (Memref.whole Cert.KernelIdeal.main_v1_scv : Memref Cert.KernelIdeal.sig Kind.scVector Space.hbm Cert.KernelIdeal.S32x16 EltTy.i32)
local notation "yB" => (Memref.whole Cert.KernelIdeal.cc0_scratch0 : Memref Cert.KernelIdeal.sig Kind.scVector Space.vmem Cert.KernelIdeal.S100000 EltTy.f32)
local notation "xB" => (Memref.whole Cert.KernelIdeal.cc0_scratch1 : Memref Cert.KernelIdeal.sig Kind.scVector Space.vmem Cert.KernelIdeal.S10000 EltTy.f32)
local notation "zB" => (Memref.whole Cert.KernelIdeal.cc0_scratch2 : Memref Cert.KernelIdeal.sig Kind.scVector Space.vmem Cert.KernelIdeal.S10000 EltTy.f32)
local notation "xW" => (Memref.whole Cert.KernelIdeal.cc0_scratch3 : Memref Cert.KernelIdeal.sig Kind.scVector Space.vmem Cert.KernelIdeal.S16 EltTy.f32)
local notation "zW" => (Memref.whole Cert.KernelIdeal.cc0_scratch4 : Memref Cert.KernelIdeal.sig Kind.scVector Space.vmem Cert.KernelIdeal.S16 EltTy.f32)
local notation "rB" => (Memref.whole Cert.KernelIdeal.cc0_scratch5 : Memref Cert.KernelIdeal.sig Kind.scVector Space.vmem Cert.KernelIdeal.S16 EltTy.i32)

variable (d : Dev nD) (L : grid0.Coords) (O : CellTallies nD τ sig (HIx 1)) (W : Waits sig (HIx 1))

variable (q : PosShare TreeShare) (x : S9600000.Idx → F .f32)
variable [FloatOps F]
variable (v3 v5 w : BitVec 32)

set_option maxHeartbeats 8000000 in
/-- The twelfth part: from the second pass after 4375 trips, the last three chunks, to the pass after all 6250 trips.
    -/
theorem wp_part12 (a : FVec F S16 .f32) (b : IVec S16 32) (h : (a, b) = scan (dist x (cloud L) w) 4375) :
    iprop(Transfers.MayWaits (V d (cV L) (jV L)) (none : HIx 1) O ∗ ((yB).view.loc (V d (cV L) (jV L)) ↦{fullShare} (ys x (cloud L) : Buf (Elt F) ((yB).view.loc (V d (cV L) (jV L))))) ∗ flying d L q x ∗ (∃ f, (zB).view.loc (V d (cV L) (jV L)) ↦{fullShare} f)
         ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0 ∗ semVal (V d (cV L) (jV L), SemLoc.dma cc0_scoped21.sem) 0 ∗ semVal (V d (cV L) (jV L), SemLoc.dma cc0_scoped22.sem) 0 ∗ owed d L O W)
      ⊢ wp frame (wpE (defs₀ (F := F)) 𝒱₀ (V d (cV L) (jV L)) none) Set.univ (k0_part12 (F := F) L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 (iota .scVector S16 32 [0] iota_S16_d0_w32_scVector) v3 v5 (broadcast S16 (centre x (cloud L) 0 w)) (broadcast S16 (centre x (cloud L) 2 w)) (broadcast S16 (centre x (cloud L) 1 w)) a b)
        fun r => iprop(⌜r = ⟨(scan (dist x (cloud L) w) 6250).1, (scan (dist x (cloud L) w) 6250).2⟩⌝
        ∗ ((xV).view.loc (V d (cV L) (jV L)) ↦{q} (x : Buf (Elt F) ((xV).view.loc (V d (cV L) (jV L))))) ∗ ((yB).view.loc (V d (cV L) (jV L)) ↦{fullShare} (ys x (cloud L) : Buf (Elt F) ((yB).view.loc (V d (cV L) (jV L))))) ∗ (∃ f, (xB).view.loc (V d (cV L) (jV L)) ↦{fullShare} f) ∗ (∃ f, (zB).view.loc (V d (cV L) (jV L)) ↦{fullShare} f)
         ∗ semVal (V d (cV L) (jV L), SemLoc.dma cc0_scoped17.sem) 0 ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0 ∗ semVal (V d (cV L) (jV L), SemLoc.dma cc0_scoped21.sem) 0 ∗ semVal (V d (cV L) (jV L), SemLoc.dma cc0_scoped22.sem) 0 ∗ owed d L O W) := by
  rw [k0_part12_eq_skeleton]
  delta k0_part12_skel owed flying
  iintro ⟨#Hmw, Hy, ⟨H17, Hx⟩, ⟨%g, Hzb⟩, H18, H19, H20, H21, H22, %W', %hW', HO⟩
  sl_exec (disch := exact View.amount_pos _ _ (show 0 < S10000.numel by decide))
  irename H17_dst => Hxb
  sl_for (inv2 d L x w 7) $$ [Hxb Hzb Hy]
  case region =>
    intro k acc
    unfold inv2
    iintro ⟨%hacc, Hxb, Hzb, Hy⟩
    sl_exec
    sl_step
    isplitr
    · ipureintro
      have hk : k.val < 625 := k.isLt.trans_le (k0_t9_abs.2.1.trans (by decide))
      exact trip (dist x (cloud L) w) (625 * 7 + k.val) _ (distances x (cloud L) 7 k.val w _ _ _ rfl rfl rfl _ _ _
        (load_x _ _ _ _ (k0_off22_eq k))
        (load_row _ _ _ _ ((k0_off23_eq k).trans (congrArg (fun n : Nat => (![n] : Fin 1 → Nat)) (by omega))))
        (load_z _ _ _ _ (k0_off22_eq k))) _ (chunk_word 7 k.val (by omega)) acc hacc
    isplitl [Hxb]
    · iexact Hxb
    isplitl [Hzb]
    · iexact Hzb
    · iexact Hy
  · unfold inv2
    isplitr
    · ipureintro
      exact h
    isplitl [Hxb]
    · iexact Hxb
    isplitl [Hzb]
    · iapply (Entails.of_eq (congrArg (fun f => ((zB).view.loc (V d (cV L) (jV L)) ↦{fullShare} f : sProp 𝕄)) (chunk_z L x _ 7 _ (k0_off7_inb L 7) (fun _ => rfl) (k0_off7_eq L 7))))
      iexact Hzb
    · iexact Hy
  iintro %acc7 HI
  unfold inv2
  icases HI with ⟨%h7, Hxb, Hzb, Hy⟩
  obtain ⟨a7, b7⟩ := acc7
  have e7 : (a7, b7) = scan (dist x (cloud L) w) (625 * 8) := h7.trans (congrArg (scan (dist x (cloud L) w)) (show 625 * 7 + k0_t9_loop.trips = 625 * 8 by decide))
  sl_exec (disch := exact View.amount_pos _ _ (show 0 < S10000.numel by decide))
  sl_for (inv2 d L x w 8) $$ [Hxb Hzb Hy]
  case region =>
    intro k acc
    unfold inv2
    iintro ⟨%hacc, Hxb, Hzb, Hy⟩
    sl_exec
    sl_step
    isplitr
    · ipureintro
      have hk : k.val < 625 := k.isLt.trans_le (k0_t10_abs.2.1.trans (by decide))
      exact trip (dist x (cloud L) w) (625 * 8 + k.val) _ (distances x (cloud L) 8 k.val w _ _ _ rfl rfl rfl _ _ _
        (load_x _ _ _ _ (k0_off24_eq k))
        (load_row _ _ _ _ ((k0_off25_eq k).trans (congrArg (fun n : Nat => (![n] : Fin 1 → Nat)) (by omega))))
        (load_z _ _ _ _ (k0_off24_eq k))) _ (chunk_word 8 k.val (by omega)) acc hacc
    isplitl [Hxb]
    · iexact Hxb
    isplitl [Hzb]
    · iexact Hzb
    · iexact Hy
  · unfold inv2
    isplitr
    · ipureintro
      exact e7
    isplitl [Hxb]
    · iapply (Entails.of_eq (congrArg (fun f => ((xB).view.loc (V d (cV L) (jV L)) ↦{fullShare} f : sProp 𝕄)) (chunk_x L x _ 8 _ (k0_off6_inb L 8) (fun _ => rfl) (k0_off6_eq L 8))))
      iexact Hxb
    isplitl [Hzb]
    · iapply (Entails.of_eq (congrArg (fun f => ((zB).view.loc (V d (cV L) (jV L)) ↦{fullShare} f : sProp 𝕄)) (chunk_z L x _ 8 _ (k0_off7_inb L 8) (fun _ => rfl) (k0_off7_eq L 8))))
      iexact Hzb
    · iexact Hy
  iintro %acc8 HI
  unfold inv2
  icases HI with ⟨%h8, Hxb, Hzb, Hy⟩
  obtain ⟨a8, b8⟩ := acc8
  have e8 : (a8, b8) = scan (dist x (cloud L) w) (625 * 9) := h8.trans (congrArg (scan (dist x (cloud L) w)) (show 625 * 8 + k0_t10_loop.trips = 625 * 9 by decide))
  sl_exec (disch := exact View.amount_pos _ _ (show 0 < S10000.numel by decide))
  sl_for (inv2 d L x w 9) $$ [Hxb Hzb Hy]
  case region =>
    intro k acc
    unfold inv2
    iintro ⟨%hacc, Hxb, Hzb, Hy⟩
    sl_exec
    sl_step
    isplitr
    · ipureintro
      have hk : k.val < 625 := k.isLt.trans_le (k0_t11_abs.2.1.trans (by decide))
      exact trip (dist x (cloud L) w) (625 * 9 + k.val) _ (distances x (cloud L) 9 k.val w _ _ _ rfl rfl rfl _ _ _
        (load_x _ _ _ _ (k0_off26_eq k))
        (load_row _ _ _ _ ((k0_off27_eq k).trans (congrArg (fun n : Nat => (![n] : Fin 1 → Nat)) (by omega))))
        (load_z _ _ _ _ (k0_off26_eq k))) _ (chunk_word 9 k.val (by omega)) acc hacc
    isplitl [Hxb]
    · iexact Hxb
    isplitl [Hzb]
    · iexact Hzb
    · iexact Hy
  · unfold inv2
    isplitr
    · ipureintro
      exact e8
    isplitl [Hxb]
    · iapply (Entails.of_eq (congrArg (fun f => ((xB).view.loc (V d (cV L) (jV L)) ↦{fullShare} f : sProp 𝕄)) (chunk_x L x _ 9 _ (k0_off6_inb L 9) (fun _ => rfl) (k0_off6_eq L 9))))
      iexact Hxb
    isplitl [Hzb]
    · iapply (Entails.of_eq (congrArg (fun f => ((zB).view.loc (V d (cV L) (jV L)) ↦{fullShare} f : sProp 𝕄)) (chunk_z L x _ 9 _ (k0_off7_inb L 9) (fun _ => rfl) (k0_off7_eq L 9))))
      iexact Hzb
    · iexact Hy
  iintro %acc9 HI
  unfold inv2
  icases HI with ⟨%h9, Hxb, Hzb, Hy⟩
  obtain ⟨a9, b9⟩ := acc9
  have e9 : (a9, b9) = scan (dist x (cloud L) w) (625 * 10) := h9.trans (congrArg (scan (dist x (cloud L) w)) (show 625 * 9 + k0_t11_loop.trips = 625 * 10 by decide))
  sl_exec (disch := exact View.amount_pos _ _ (show 0 < S10000.numel by decide))
  sl_step
  isplitr
  · ipureintro
    have e1 : a9 = (scan (dist x (cloud L) w) 6250).1 := congrArg Prod.fst e9
    have e2 : b9 = (scan (dist x (cloud L) w) 6250).2 := congrArg Prod.snd e9
    rw [e1, e2]
  isplitl [Hx]
  · iexact Hx
  isplitl [Hy]
  · iexact Hy
  isplitl [Hxb]
  · iexists _
    iexact Hxb
  isplitl [Hzb]
  · iexists _
    iexact Hzb
  isplitl [H17]
  · iexact H17
  isplitl [H18]
  · iexact H18
  isplitl [H19]
  · iexact H19
  isplitl [H20]
  · iexact H20
  isplitl [H21]
  · iexact H21
  isplitl [H22]
  · iexact H22
  iexists _
  isplitr
  · ipureintro
    exact (recorded (recorded (recorded (recorded (recorded (recorded hW' (SemLoc.dma cc0_scoped17.sem)) (SemLoc.dma cc0_scoped18.sem)) (SemLoc.dma cc0_scoped19.sem)) (SemLoc.dma cc0_scoped20.sem)) (SemLoc.dma cc0_scoped21.sem)) (SemLoc.dma cc0_scoped22.sem))
  · iexact HO

end Cert.KernelIdeal.Fps
-- ==== Proof.Fps.Last.lean ====
/- The end of a tile's work: its row of results stored and copied out. -/
module

public import proofs.«01_k».proof.Proof.Fps.Setup

@[expose] public section

set_option maxRecDepth 65536

noncomputable section

namespace Cert.KernelIdeal.Fps

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S9600000 EltTy.f32)
local notation "oV" => (Memref.whole Cert.KernelIdeal.main_v1_scv : Memref Cert.KernelIdeal.sig Kind.scVector Space.hbm Cert.KernelIdeal.S32x16 EltTy.i32)
local notation "yB" => (Memref.whole Cert.KernelIdeal.cc0_scratch0 : Memref Cert.KernelIdeal.sig Kind.scVector Space.vmem Cert.KernelIdeal.S100000 EltTy.f32)
local notation "xB" => (Memref.whole Cert.KernelIdeal.cc0_scratch1 : Memref Cert.KernelIdeal.sig Kind.scVector Space.vmem Cert.KernelIdeal.S10000 EltTy.f32)
local notation "zB" => (Memref.whole Cert.KernelIdeal.cc0_scratch2 : Memref Cert.KernelIdeal.sig Kind.scVector Space.vmem Cert.KernelIdeal.S10000 EltTy.f32)
local notation "xW" => (Memref.whole Cert.KernelIdeal.cc0_scratch3 : Memref Cert.KernelIdeal.sig Kind.scVector Space.vmem Cert.KernelIdeal.S16 EltTy.f32)
local notation "zW" => (Memref.whole Cert.KernelIdeal.cc0_scratch4 : Memref Cert.KernelIdeal.sig Kind.scVector Space.vmem Cert.KernelIdeal.S16 EltTy.f32)
local notation "rB" => (Memref.whole Cert.KernelIdeal.cc0_scratch5 : Memref Cert.KernelIdeal.sig Kind.scVector Space.vmem Cert.KernelIdeal.S16 EltTy.i32)

variable (d : Dev nD) (L : grid0.Coords) (O : CellTallies nD τ sig (HIx 1)) (W : Waits sig (HIx 1))

/-- The row of the results that the tile copies out to. -/
abbrev rowK : Memref sig .scVector .hbm S16 .i32 :=
  ((oV).slice (Rect.unit (s := S32x16) (k0_off28 L) S1x16.size (k0_off28_inb L)) (fun _ => rfl)).squeeze S16 squeezes_S1x16_S16

/-- The positions of row `b` of the results. -/
def rowSet (b : Nat) : Finset S32x16.Idx := Finset.univ.filter fun i => (i 0).val = b

/-- Lane `j` of the tile's row is position `(cloud, j)` of the results. -/
theorem rowK_emb (j : S16.Idx) : ((rowK L).view.emb j 0).val = cloud L ∧ ((rowK L).view.emb j 1).val = (j 0).val := by
  have e : Shape.reshapeEquiv (s := S1x16) (s' := S16) squeezes_S1x16_S16.numel_eq j = Fin.cons ⟨0, Nat.one_pos⟩ j :=
    Shape.reshapeEquiv_cons_one _ j
  have e0 : ((rowK L).view.emb j 0).val = k0_off28 L 0 + 1 * (Shape.reshapeEquiv (s := S1x16) (s' := S16) squeezes_S1x16_S16.numel_eq j 0).val := rfl
  have e1 : ((rowK L).view.emb j 1).val = k0_off28 L 1 + 1 * (Shape.reshapeEquiv (s := S1x16) (s' := S16) squeezes_S1x16_S16.numel_eq j 1).val := rfl
  rw [e0, e1, e, k0_off28_eq]
  constructor
  · show (2 * (L 1).val + (L 0).val) + 1 * 0 = cloud L
    unfold cloud; omega
  · show 0 + 1 * (j 0).val = (j 0).val
    omega

/-- The tile's row is row `cloud` of the results. -/
theorem set_rowK : (rowK L).view.set = rowSet (cloud L) := by
  ext i
  rw [rowSet, Finset.mem_filter]
  constructor
  · intro h
    obtain ⟨j, hj⟩ := View.exists_emb_of_mem_set (rowK L).view h
    exact ⟨Finset.mem_univ _, hj ▸ (rowK_emb L j).1⟩
  · rintro ⟨-, h⟩
    have : (rowK L).view.emb (ix1 (i 1)) = i := by
      funext a
      match a with
      | ⟨0, _⟩ => exact Fin.ext ((rowK_emb L _).1.trans h.symm)
      | ⟨1, _⟩ => exact Fin.ext (rowK_emb L _).2
    exact this ▸ View.emb_mem_set (rowK L).view _

/-- What the copy leaves of the results' buffer on the tile's row. -/
theorem row_written (f0 : S32x16.Idx → BitVec 32) (r p : S16.Idx → BitVec 32) (g : S32x16.Idx → BitVec 32) (hp : p = r)
    (h : ∀ j : S16.Idx, ∀ i : S32x16.Idx, (i 0).val = cloud L → (i 1).val = (j 0).val → r j = g i) :
    ∀ i ∈ (rowK L).view.set, (rowK L).view.writes (Elt F) f0 [⟨Rect.whole S16, p⟩] i = g i := by
  subst hp
  intro i hi
  obtain ⟨j, hj⟩ := View.exists_emb_of_mem_set (rowK L).view hi
  subst hj
  exact (congrFun (View.read_writes_whole (Val := Elt F) (rowK L).view f0 p) j).trans (h j _ (rowK_emb L j).1 (rowK_emb L j).2)

/-- The store of a tile's row of results and the row's copy out. -/
def tail (r : IVec S16 32) : Prog (TpuEff nD τ sig (Elt F) Λ₀ (.scVector (cV L) (jV L))) PUnit := do
  let _v : Vec F S16 .i32 ← Prog.lift (.load rB (Rect.unit (s := S16) ![0] S16.size inb_S16_S16_0).toLoadRect (View.loadsAt_vmem h_S16))
  Prog.lift (.store rB (Rect.unit (s := S16) ![0] S16.size inb_S16_S16_0) r Finset.univ (View.stores_vmem_bits_univ h_S16 rfl) (.inl rfl))
  Prog.lift (.enqueueDma rB (.here (rowK L)) (.dma cc0_scoped23.sem) (Memref.isWhole_whole cc0_scratch5).wordExact ((View.wordExact_bits rfl).reshape _ _) ⟨Or.inl rfl, trivial⟩)
  Prog.lift (.waitDma2 cc0_scoped23.sem rB (rowK L) (Memref.isWhole_whole cc0_scratch5).wordExact ((View.wordExact_bits rfl).reshape _ _))
  pure ⟨⟩

/-- A store of all sixteen lanes leaves what is stored. -/
theorem stored (f r : S16.Idx → BitVec 32) (inb : ∀ a, (![0] : Fin 1 → Nat) a + S16.size a ≤ S16.size a) :
    (rB).view.read (Elt F) ((rB).view.writes (Elt F) f [⟨Rect.unit (s := S16) ![0] S16.size inb, r⟩]) = r :=
  Memref.write_access_unit_zero_univ (Elt F) cc0_scratch5 (funext fun a => by match a with | ⟨0, _⟩ => rfl) inb f r

set_option maxHeartbeats 1000000 in
/-- The end of a tile's work: the row `r` is stored and copied out, and the tile's row of the results is that of `g`,
    which holds `r` there. -/
theorem wp_tail [FloatOps F] (r : IVec S16 32) (f0 g : S32x16.Idx → BitVec 32)
    (h : ∀ j : S16.Idx, ∀ i : S32x16.Idx, (i 0).val = cloud L → (i 1).val = (j 0).val → r j = g i) :
    iprop(Transfers.MayWaits (V d (cV L) (jV L)) (none : HIx 1) O ∗ ((rowK L).view.loc (V d (cV L) (jV L)) ↦[(rowK L).view.set]{fullShare} (f0 : Buf (Elt F) ((rowK L).view.loc (V d (cV L) (jV L))))) ∗ (∃ f, (rB).view.loc (V d (cV L) (jV L)) ↦{fullShare} f) ∗ semVal (V d (cV L) (jV L), SemLoc.dma cc0_scoped23.sem) 0 ∗ owed d L O W)
      ⊢ wp frame (wpE (defs₀ (F := F)) 𝒱₀ (V d (cV L) (jV L)) none) Set.univ (tail (F := F) L r)
        fun _ => iprop(((rowK L).view.loc (V d (cV L) (jV L)) ↦[(rowK L).view.set]{fullShare} (g : Buf (Elt F) ((rowK L).view.loc (V d (cV L) (jV L))))) ∗ (∃ f, (rB).view.loc (V d (cV L) (jV L)) ↦{fullShare} f) ∗ semVal (V d (cV L) (jV L), SemLoc.dma cc0_scoped23.sem) 0 ∗ owed d L O W) := by
  delta tail owed
  iintro ⟨#Hmw, Ho, ⟨%f, Hr⟩, H23, %W', %hW', HO⟩
  sl_exec
  sl_step
  isplitl [Ho]
  · iapply (Entails.of_eq (pointsTo_congr (row_written (F := F) L f0 r _ g (stored (F := F) _ r inb_S16_S16_0) h)))
    iexact Ho
  isplitl [Hr]
  · iexists _
    iexact Hr
  isplitl [H23]
  · iexact H23
  iexists _
  isplitr
  · ipureintro
    exact (recorded hW' (SemLoc.dma cc0_scoped23.sem))
  · iexact HO

end Cert.KernelIdeal.Fps
-- ==== Proof.Fps.Tile.lean ====
/- A tile's whole body: its parts one after the other. -/
module

public import proofs.«01_k».proof.Proof.Fps.One
public import proofs.«01_k».proof.Proof.Fps.Centre
public import proofs.«01_k».proof.Proof.Fps.Tenth
public import proofs.«01_k».proof.Proof.Fps.Twelfth
public import proofs.«01_k».proof.Proof.Fps.Last

@[expose] public section

set_option maxRecDepth 65536

noncomputable section

namespace Cert.KernelIdeal.Fps

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S9600000 EltTy.f32)
local notation "oV" => (Memref.whole Cert.KernelIdeal.main_v1_scv : Memref Cert.KernelIdeal.sig Kind.scVector Space.hbm Cert.KernelIdeal.S32x16 EltTy.i32)
local notation "yB" => (Memref.whole Cert.KernelIdeal.cc0_scratch0 : Memref Cert.KernelIdeal.sig Kind.scVector Space.vmem Cert.KernelIdeal.S100000 EltTy.f32)
local notation "xB" => (Memref.whole Cert.KernelIdeal.cc0_scratch1 : Memref Cert.KernelIdeal.sig Kind.scVector Space.vmem Cert.KernelIdeal.S10000 EltTy.f32)
local notation "zB" => (Memref.whole Cert.KernelIdeal.cc0_scratch2 : Memref Cert.KernelIdeal.sig Kind.scVector Space.vmem Cert.KernelIdeal.S10000 EltTy.f32)
local notation "xW" => (Memref.whole Cert.KernelIdeal.cc0_scratch3 : Memref Cert.KernelIdeal.sig Kind.scVector Space.vmem Cert.KernelIdeal.S16 EltTy.f32)
local notation "zW" => (Memref.whole Cert.KernelIdeal.cc0_scratch4 : Memref Cert.KernelIdeal.sig Kind.scVector Space.vmem Cert.KernelIdeal.S16 EltTy.f32)
local notation "rB" => (Memref.whole Cert.KernelIdeal.cc0_scratch5 : Memref Cert.KernelIdeal.sig Kind.scVector Space.vmem Cert.KernelIdeal.S16 EltTy.i32)

variable (d : Dev nD) (L : grid0.Coords) (O : CellTallies nD τ sig (HIx 1)) (W : Waits sig (HIx 1))

/-- A step whose result is known, followed by the rest. -/
theorem step [FloatOps F] {A B : Type} {P R : sProp 𝕄} {Q : B → sProp 𝕄} {c : A}
    (p : Prog (TpuEff nD τ sig (Elt F) Λ₀ (.scVector (cV L) (jV L))) A) (k : A → Prog (TpuEff nD τ sig (Elt F) Λ₀ (.scVector (cV L) (jV L))) B)
    (hp : P ⊢ wp frame (wpE (defs₀ (F := F)) 𝒱₀ (V d (cV L) (jV L)) none) Set.univ p fun r => iprop(⌜r = c⌝ ∗ R)) :
    iprop(P ∗ (R -∗ wp frame (wpE (defs₀ (F := F)) 𝒱₀ (V d (cV L) (jV L)) none) Set.univ (k c) Q)) ⊢ wp frame (wpE (defs₀ (F := F)) 𝒱₀ (V d (cV L) (jV L)) none) Set.univ (p >>= k) Q := by
  rw [wp_bind]
  refine (sep_mono_left hp).trans (Entails.trans (sep_mono_right ?_) (wp_wand_r _ _ _))
  iintro H %a ⟨%ha, HR⟩
  subst ha
  iapply H
  iexact HR

/-- A step that only computes, followed by the rest. -/
theorem step_pure [FloatOps F] {A B : Type} {Q : B → sProp 𝕄} {c : A}
    {p : Prog (TpuEff nD τ sig (Elt F) Λ₀ (.scVector (cV L) (jV L))) A} {k : A → Prog (TpuEff nD τ sig (Elt F) Λ₀ (.scVector (cV L) (jV L))) B}
    (hp : p = pure c) : (wp frame (wpE (defs₀ (F := F)) 𝒱₀ (V d (cV L) (jV L)) none) Set.univ (k c) Q : sProp 𝕄) ⊢ wp frame (wpE (defs₀ (F := F)) 𝒱₀ (V d (cV L) (jV L)) none) Set.univ (p >>= k) Q := by
  subst hp
  exact Entails.of_eq (congrArg (fun t => wp frame (wpE (defs₀ (F := F)) 𝒱₀ (V d (cV L) (jV L)) none) Set.univ t Q) (pure_bind c k).symm)

/-- A side condition that holds, followed by the rest. -/
theorem step_assume [FloatOps F] {A B : Type} {Q : B → sProp 𝕄} {C : Prop} {dC : Decidable C} (h : C)
    {p : Prog (TpuEff nD τ sig (Elt F) Λ₀ (.scVector (cV L) (jV L))) A} {k : A → Prog (TpuEff nD τ sig (Elt F) Λ₀ (.scVector (cV L) (jV L))) B}
    {g : PLift C → Prog (TpuEff nD τ sig (Elt F) Λ₀ (.scVector (cV L) (jV L))) A} {c : A}
    (hp : p = (Prog.lift (TpuEff.assume C dC) >>= g)) (hg : g ⟨h⟩ = pure c) :
    (wp frame (wpE (defs₀ (F := F)) 𝒱₀ (V d (cV L) (jV L)) none) Set.univ (k c) Q : sProp 𝕄) ⊢ wp frame (wpE (defs₀ (F := F)) 𝒱₀ (V d (cV L) (jV L)) none) Set.univ (p >>= k) Q := by
  subst hp
  refine Entails.trans (Entails.of_eq ?_) (Entails.of_eq (wp_assume_of 𝒱₀ (V d (cV L) (jV L)) none Set.univ (k := fun h' => g h' >>= k) (Q := Q) h).symm)
  rw [hg]
  exact congrArg (fun t => wp frame (wpE (defs₀ (F := F)) 𝒱₀ (V d (cV L) (jV L)) none) Set.univ t Q) (pure_bind c k).symm

/-- The results that the kernel writes. -/
def out [FloatOps F] (x : S9600000.Idx → F .f32) : S32x16.Idx → BitVec 32 := fun i => row x (i 0).val (i 1).val

/-- The row that the tile stores is its cloud's. -/
theorem row_pay [FloatOps F] (x : S9600000.Idx → F .f32) (b : Nat) (v2 w2 : FVec F S16 .f32 × IVec S16 32) (hv : v2 = scan (coord x b 1) 6250)
    (hw : w2 = scan (dist x b (fin v2.1 v2.2 16).2) 6250) :
    k0_pay1 (iota .scVector S16 32 [0] iota_S16_d0_w32_scVector) (fin v2.1 v2.2 16).2 (fin w2.1 w2.2 15).2 (w2.2 (lane 15)) (takes (fin w2.1 w2.2 15) (w2.1 (lane 15)) (w2.2 (lane 15)))
      = fun j => row x b (j 0).val := by
  subst hv
  subst hw
  funext j
  have hj : (j 0).val < 16 := (j 0).isLt
  have e : (iota .scVector S16 32 [0] iota_S16_d0_w32_scVector) j = BitVec.ofNat 32 (j 0).val := by
    show BitVec.ofNat 32 (0 * _ + (j 0).val) = _
    rw [Nat.zero_mul, Nat.zero_add]
  unfold k0_pay1
  rw [cast_lanes]
  show Scalar.select (Scalar.cmpi .eq ((iota .scVector S16 32 [0] iota_S16_d0_w32_scVector) j) 0#32) (first x b)
    (Scalar.select (Scalar.cmpi .eq ((iota .scVector S16 32 [0] iota_S16_d0_w32_scVector) j) 1#32) (second x b) 0#32) = row x b (j 0).val
  rw [e]
  generalize (j 0).val = n at hj
  unfold row
  interval_cases n <;> rfl

set_option maxHeartbeats 4000000 in
/-- A tile's whole body: it reads the coordinates, and leaves its cloud's row of the results as `out` says. -/
theorem wp_body [FloatOps F] (q : PosShare TreeShare) (x : S9600000.Idx → F .f32) (f0 : S32x16.Idx → BitVec 32)
    (v : FVec F S16 .f32) (w : IVec S16 32) (hv : v = (scan (coord x (cloud L) 1) 6250).1) (hw : w = (scan (coord x (cloud L) 1) 6250).2) (hle : ∀ l, (w l).toNat < 100000) :
    iprop(Transfers.MayWaits (V d (cV L) (jV L)) (none : HIx 1) O ∗ ((xV).view.loc (V d (cV L) (jV L)) ↦{q} (x : Buf (Elt F) ((xV).view.loc (V d (cV L) (jV L))))) ∗ ((rowK L).view.loc (V d (cV L) (jV L)) ↦[(rowK L).view.set]{fullShare} (f0 : Buf (Elt F) ((rowK L).view.loc (V d (cV L) (jV L))))) ∗ (∃ f, (yB).view.loc (V d (cV L) (jV L)) ↦{fullShare} f) ∗ (∃ f, (xB).view.loc (V d (cV L) (jV L)) ↦{fullShare} f) ∗ (∃ f, (zB).view.loc (V d (cV L) (jV L)) ↦{fullShare} f) ∗ (∃ f, (xW).view.loc (V d (cV L) (jV L)) ↦{fullShare} f) ∗ (∃ f, (zW).view.loc (V d (cV L) (jV L)) ↦{fullShare} f) ∗ (∃ f, (rB).view.loc (V d (cV L) (jV L)) ↦{fullShare} f) ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0 ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0 ∗ semVal (V d (cV L) (jV L), SemLoc.dma cc0_scoped6.sem) 0 ∗ semVal (V d (cV L) (jV L), SemLoc.dma cc0_scoped7.sem) 0 ∗ semVal (V d (cV L) (jV L), SemLoc.dma cc0_scoped8.sem) 0 ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0 ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0 ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0 ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0 ∗ semVal (V d (cV L) (jV L), SemLoc.dma cc0_scoped21.sem) 0 ∗ semVal (V d (cV L) (jV L), SemLoc.dma cc0_scoped22.sem) 0 ∗ semVal (V d (cV L) (jV L), SemLoc.dma cc0_scoped23.sem) 0 ∗ owed d L O W)
      ⊢ wp frame (wpE (defs₀ (F := F)) 𝒱₀ (V d (cV L) (jV L)) none) Set.univ (cc0__fps_body (F := F) L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23)
        fun _ => iprop(((xV).view.loc (V d (cV L) (jV L)) ↦{q} (x : Buf (Elt F) ((xV).view.loc (V d (cV L) (jV L))))) ∗ ((rowK L).view.loc (V d (cV L) (jV L)) ↦[(rowK L).view.set]{fullShare} (out x : Buf (Elt F) ((rowK L).view.loc (V d (cV L) (jV L))))) ∗ (∃ f, (yB).view.loc (V d (cV L) (jV L)) ↦{fullShare} f) ∗ (∃ f, (xB).view.loc (V d (cV L) (jV L)) ↦{fullShare} f) ∗ (∃ f, (zB).view.loc (V d (cV L) (jV L)) ↦{fullShare} f) ∗ (∃ f, (xW).view.loc (V d (cV L) (jV L)) ↦{fullShare} f) ∗ (∃ f, (zW).view.loc (V d (cV L) (jV L)) ↦{fullShare} f) ∗ (∃ f, (rB).view.loc (V d (cV L) (jV L)) ↦{fullShare} f) ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0 ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0 ∗ semVal (V d (cV L) (jV L), SemLoc.dma cc0_scoped6.sem) 0 ∗ semVal (V d (cV L) (jV L), SemLoc.dma cc0_scoped7.sem) 0 ∗ semVal (V d (cV L) (jV L), SemLoc.dma cc0_scoped8.sem) 0 ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0 ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0 ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0 ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0 ∗ semVal (V d (cV L) (jV L), SemLoc.dma cc0_scoped21.sem) 0 ∗ semVal (V d (cV L) (jV L), SemLoc.dma cc0_scoped22.sem) 0 ∗ semVal (V d (cV L) (jV L), SemLoc.dma cc0_scoped23.sem) 0 ∗ owed d L O W) := by
  have hb : (fin v w 16).2.toNat ≤ 100000 := fin_le v w hle 16
  have e4 := part4 L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 v w
  rw [baseWord_eq _ hb] at e4
  have hr : ∀ j : S16.Idx, ∀ i : S32x16.Idx, (i 0).val = cloud L → (i 1).val = (j 0).val →
      k0_pay1 (iota .scVector S16 32 [0] iota_S16_d0_w32_scVector) (fin v w 16).2 (fin (scan (dist x (cloud L) (fin v w 16).2) 6250).1 (scan (dist x (cloud L) (fin v w 16).2) 6250).2 15).2 ((scan (dist x (cloud L) (fin v w 16).2) 6250).2 (lane 15))
        (takes (fin (scan (dist x (cloud L) (fin v w 16).2) 6250).1 (scan (dist x (cloud L) (fin v w 16).2) 6250).2 15) ((scan (dist x (cloud L) (fin v w 16).2) 6250).1 (lane 15)) ((scan (dist x (cloud L) (fin v w 16).2) 6250).2 (lane 15))) j = out x i := by
    intro j i h0 h1
    have := congrFun (row_pay x (cloud L) (v, w) (scan (dist x (cloud L) (fin v w 16).2) 6250) (by rw [hv, hw]) rfl) j
    refine this.trans ?_
    unfold out
    rw [h0, h1]
  rw [cc0__fps_body_eq_skeleton]
  delta cc0__fps_body_skel
  iintro ⟨#Hmw, Hx, Ho, Hy, Hxb, Hzb, Hxw, Hzw, Hrb, H0, H1, H2, H3, H4, H5, H6, H7, H8, H9, H10, H11, H12, H13, H14, H15, H16, H17, H18, H19, H20, H21, H22, H23, HO⟩
  iapply (step d L _ _ (wp_part1 d L O W q x v w hv hw))
  isplitl [Hx Hy H0 HO]
  · isplitr
    · iexact Hmw
    isplitl [Hx]
    · iexact Hx
    isplitl [Hy]
    · iexact Hy
    isplitl [H0]
    · iexact H0
    iexact HO
  iintro ⟨Hx, Hy, H0, HO⟩
  iapply (step_pure d L (part2 L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 v w))
  iapply (step_pure d L (part3 L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 v w))
  iapply (step_assume d L (chk1 L v w hb) e4 rfl)
  iapply (step d L _ _ (wp_part5 d L O W q x v w _ _ _ (Scalar.subi (fin v w 16).2 (BitVec.ofNat 32 (base (fin v w 16).2))) hb _))
  isplitl [Hx Hxw Hzw H1 H2 HO]
  · isplitr
    · iexact Hmw
    isplitl [Hx]
    · iexact Hx
    isplitl [Hxw]
    · iexact Hxw
    isplitl [Hzw]
    · iexact Hzw
    isplitl [H1]
    · iexact H1
    isplitl [H2]
    · iexact H2
    iexact HO
  iintro ⟨Hx, Hxw, Hzw, H1, H2, HO⟩
  iapply (step d L _ _ (wp_part6 d L (Scalar.subi (fin v w 16).2 (BitVec.ofNat 32 (base (fin v w 16).2))) (lanes (coord x (cloud L) 0) (base (fin v w 16).2)) (lanes (coord x (cloud L) 2) (base (fin v w 16).2))))
  isplitl [Hzw]
  · iexact Hzw
  iintro ⟨Hzw⟩
  iapply (step d L _ _ (wp_part7 d L x v w _ (Scalar.subi (fin v w 16).2 (BitVec.ofNat 32 (base (fin v w 16).2))) hb _ (lanes (coord x (cloud L) 2) (base (fin v w 16).2))))
  isplitl [Hy]
  · iexact Hy
  iintro ⟨Hy⟩
  iapply (step_pure d L (eq_part8 L (Scalar.subi (fin v w 16).2 (BitVec.ofNat 32 (base (fin v w 16).2))) (lanes (coord x (cloud L) 1) (base (fin v w 16).2))))
  iapply (step d L _ _ (wp_part9 d L O W q x _ _ (fin v w 16).2 (Scalar.subi (fin v w 16).2 (BitVec.ofNat 32 (base (fin v w 16).2))) (lanes (coord x (cloud L) 1) (base (fin v w 16).2)) _ _ _ (pay65 (Scalar.subi (fin v w 16).2 (BitVec.ofNat 32 (base (fin v w 16).2))) (lanes (coord x (cloud L) 1) (base (fin v w 16).2)))))
  isplitl [Hx Hy Hxb Hzb H3 H4 H5 H6 HO]
  · isplitr
    · iexact Hmw
    isplitl [Hx]
    · iexact Hx
    isplitl [Hy]
    · iexact Hy
    isplitl [Hxb]
    · iexact Hxb
    isplitl [Hzb]
    · iexact Hzb
    isplitl [H3]
    · iexact H3
    isplitl [H4]
    · iexact H4
    isplitl [H5]
    · iexact H5
    isplitl [H6]
    · iexact H6
    iexact HO
  iintro ⟨Hx, Hy, Hxb, Hzb, H3, H4, H5, H6, HO⟩
  iapply (step d L _ _ (wp_part10 d L O W q x _ _ (fin v w 16).2 _ _ rfl))
  isplitl [Hx Hy Hxb Hzb H7 H8 H9 H10 H11 HO]
  · isplitr
    · iexact Hmw
    isplitl [Hx]
    · iexact Hx
    isplitl [Hy]
    · iexact Hy
    isplitl [Hxb]
    · iexact Hxb
    isplitl [Hzb]
    · iexact Hzb
    isplitl [H7]
    · iexact H7
    isplitl [H8]
    · iexact H8
    isplitl [H9]
    · iexact H9
    isplitl [H10]
    · iexact H10
    isplitl [H11]
    · iexact H11
    iexact HO
  iintro ⟨Hx, Hy, Hxb, Hzb, H7, H8, H9, H10, H11, HO⟩
  iapply (step d L _ _ (wp_part11 d L O W q x _ _ (fin v w 16).2 _ _ rfl))
  isplitl [Hx Hy Hxb Hzb H12 H13 H14 H15 H16 H17 HO]
  · isplitr
    · iexact Hmw
    isplitl [Hx]
    · iexact Hx
    isplitl [Hy]
    · iexact Hy
    isplitl [Hxb]
    · iexact Hxb
    isplitl [Hzb]
    · iexact Hzb
    isplitl [H12]
    · iexact H12
    isplitl [H13]
    · iexact H13
    isplitl [H14]
    · iexact H14
    isplitl [H15]
    · iexact H15
    isplitl [H16]
    · iexact H16
    isplitl [H17]
    · iexact H17
    iexact HO
  iintro ⟨Hy, Hfl, Hzb, H12, H13, H14, H15, H16, HO⟩
  iapply (step d L _ _ (wp_part12 d L O W q x _ _ (fin v w 16).2 _ _ rfl))
  isplitl [Hy Hfl Hzb H18 H19 H20 H21 H22 HO]
  · isplitr
    · iexact Hmw
    isplitl [Hy]
    · iexact Hy
    isplitl [Hfl]
    · iexact Hfl
    isplitl [Hzb]
    · iexact Hzb
    isplitl [H18]
    · iexact H18
    isplitl [H19]
    · iexact H19
    isplitl [H20]
    · iexact H20
    isplitl [H21]
    · iexact H21
    isplitl [H22]
    · iexact H22
    iexact HO
  iintro ⟨Hx, Hy, Hxb, Hzb, H17, H18, H19, H20, H21, H22, HO⟩
  iapply (step_pure d L (part13 L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 (scan (dist x (cloud L) (fin v w 16).2) 6250).1 (scan (dist x (cloud L) (fin v w 16).2) 6250).2))
  iapply (step_pure d L (part14 L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 (scan (dist x (cloud L) (fin v w 16).2) 6250).1 (scan (dist x (cloud L) (fin v w 16).2) 6250).2))
  iapply (step_pure d L (part15 L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 (scan (dist x (cloud L) (fin v w 16).2) 6250).1 (scan (dist x (cloud L) (fin v w 16).2) 6250).2))
  iapply (wp_wand_r _ _ _)
  isplitl [Ho Hrb H23 HO]
  · iapply (wp_tail d L O W _ f0 (out x) hr)
    isplitr
    · iexact Hmw
    isplitl [Ho]
    · iexact Ho
    isplitl [Hrb]
    · iexact Hrb
    isplitl [H23]
    · iexact H23
    iexact HO
  iintro %_ ⟨Ho, Hrb, H23, HO⟩
  isplitl [Hx]
  · iexact Hx
  isplitl [Ho]
  · iexact Ho
  isplitl [Hy]
  · iexists _
    iexact Hy
  isplitl [Hxb]
  · iexact Hxb
  isplitl [Hzb]
  · iexact Hzb
  isplitl [Hxw]
  · iexact Hxw
  isplitl [Hzw]
  · iexists _
    iexact Hzw
  isplitl [Hrb]
  · iexact Hrb
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  iexact HO

end Cert.KernelIdeal.Fps
-- ==== Proof.Fps.Task.lean ====
/- A tile's obligation: what it is handed and what it hands back, its body run in between. -/
module

public import proofs.«01_k».proof.Proof.Fps.Tile

@[expose] public section

set_option maxRecDepth 65536

noncomputable section

namespace Cert.KernelIdeal.Fps

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx Pay ownBufs ownSems0 ownCells ownRefs mem_ownCells mem_ownRefs)

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S9600000 EltTy.f32)
local notation "oV" => (Memref.whole Cert.KernelIdeal.main_v1_scv : Memref Cert.KernelIdeal.sig Kind.scVector Space.hbm Cert.KernelIdeal.S32x16 EltTy.i32)
local notation "yB" => (Memref.whole Cert.KernelIdeal.cc0_scratch0 : Memref Cert.KernelIdeal.sig Kind.scVector Space.vmem Cert.KernelIdeal.S100000 EltTy.f32)
local notation "xB" => (Memref.whole Cert.KernelIdeal.cc0_scratch1 : Memref Cert.KernelIdeal.sig Kind.scVector Space.vmem Cert.KernelIdeal.S10000 EltTy.f32)
local notation "zB" => (Memref.whole Cert.KernelIdeal.cc0_scratch2 : Memref Cert.KernelIdeal.sig Kind.scVector Space.vmem Cert.KernelIdeal.S10000 EltTy.f32)
local notation "xW" => (Memref.whole Cert.KernelIdeal.cc0_scratch3 : Memref Cert.KernelIdeal.sig Kind.scVector Space.vmem Cert.KernelIdeal.S16 EltTy.f32)
local notation "zW" => (Memref.whole Cert.KernelIdeal.cc0_scratch4 : Memref Cert.KernelIdeal.sig Kind.scVector Space.vmem Cert.KernelIdeal.S16 EltTy.f32)
local notation "rB" => (Memref.whole Cert.KernelIdeal.cc0_scratch5 : Memref Cert.KernelIdeal.sig Kind.scVector Space.vmem Cert.KernelIdeal.S16 EltTy.i32)

variable (d : Dev nD) (L : grid0.Coords) (O : CellTallies nD τ sig (HIx 1)) (W : Waits sig (HIx 1))

/-- Some members of a family, listed, beside the rest. -/
theorem peel {I : Type} [DecidableEq I] (Φ : I → sProp 𝕄) : ∀ (l : List I) (s : Finset I), l.Nodup → (∀ a ∈ l, a ∈ s) →
    bigSep s Φ = l.foldr (fun a P => iprop(Φ a ∗ P)) (bigSep (l.foldl Finset.erase s) Φ)
  | [], _, _, _ => rfl
  | a :: l, s, hn, hs => by
    rw [List.nodup_cons] at hn
    rw [BI.bigSep_erase (hs a List.mem_cons_self), peel Φ l (s.erase a) hn.2 fun b hb =>
      Finset.mem_erase.mpr ⟨fun e => hn.1 (e ▸ hb), hs b (List.mem_cons_of_mem _ hb)⟩]
    rfl

/-- A tile's semaphores and scratch buffers, in the body's order. -/
def cells : List (SemLoc sig) := [.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem, .dma cc0_scoped12.sem, .dma cc0_scoped13.sem, .dma cc0_scoped14.sem, .dma cc0_scoped15.sem, .dma cc0_scoped16.sem, .dma cc0_scoped17.sem, .dma cc0_scoped18.sem, .dma cc0_scoped19.sem, .dma cc0_scoped20.sem, .dma cc0_scoped21.sem, .dma cc0_scoped22.sem, .dma cc0_scoped23.sem]
def refs : List (Ref sig .scVector) := [cc0_scratch0, cc0_scratch1, cc0_scratch2, cc0_scratch3, cc0_scratch4, cc0_scratch5]

/-- What a tile keeps beside them. -/
def restSems : sProp 𝕄 := bigSep ((cells.map fun s => (((V d (cV L) (jV L)), s) : GSem nD τ sig)).foldl Finset.erase (ownCells (V d (cV L) (jV L)))) fun g => semVal g 0
def restBufs : sProp 𝕄 := bigSep ((refs.map fun r => (Proc.scVector (cV L) (jV L)).devRef r).foldl Finset.erase (ownRefs (τ := τ) (.scVector (cV L) (jV L))))
  fun b => iprop(∃ f, ((d, b) : Loc nD τ sig) ↦{fullShare} f)

/-- The tile's semaphores are all of its own scope. -/
theorem cells_scoped : ∀ s ∈ cells, (s : SemLoc sig).isScoped .scVector = true := by decide
/-- The tile's semaphores are pairwise different. -/
theorem cells_nodup : cells.Nodup := by decide
/-- The tile's buffers are pairwise different. -/
theorem refs_nodup : refs.Nodup := by decide
/-- The tile's buffers are its own. -/
theorem refs_owner (c : Fin τ.nSC) (i : Fin τ.nSub) : ∀ r ∈ refs, ((Proc.scVector c i).devRef r).owner = .proc (.scVector c i) := by
  intro r hr
  simp only [refs, List.mem_cons, List.not_mem_nil, or_false] at hr
  rcases hr with rfl | rfl | rfl | rfl | rfl | rfl <;> rfl

/-- The tile's semaphores, one by one. -/
theorem sems_split : (ownSems0 (V d (cV L) (jV L)) : sProp 𝕄) = iprop(semVal (V d (cV L) (jV L), SemLoc.dma cc0_scoped0.sem) 0 ∗ semVal (V d (cV L) (jV L), SemLoc.dma cc0_scoped1.sem) 0 ∗ semVal (V d (cV L) (jV L), SemLoc.dma cc0_scoped2.sem) 0 ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0 ∗ semVal (V d (cV L) (jV L), SemLoc.dma cc0_scoped6.sem) 0 ∗ semVal (V d (cV L) (jV L), SemLoc.dma cc0_scoped7.sem) 0 ∗ semVal (V d (cV L) (jV L), SemLoc.dma cc0_scoped8.sem) 0 ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0 ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0 ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0 ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0 ∗ semVal (V d (cV L) (jV L), SemLoc.dma cc0_scoped21.sem) 0 ∗ semVal (V d (cV L) (jV L), SemLoc.dma cc0_scoped22.sem) 0 ∗ semVal (V d (cV L) (jV L), SemLoc.dma cc0_scoped23.sem) 0 ∗ restSems d L) := by
  unfold ownSems0
  rw [peel _ (cells.map fun s => (((V d (cV L) (jV L)), s) : GSem nD τ sig)) _ (cells_nodup.map (Prod.mk_right_injective _)) (by
    intro g hg
    obtain ⟨s, hs, rfl⟩ := List.mem_map.mp hg
    exact mem_ownCells.mpr ⟨rfl, cells_scoped s hs⟩)]
  change List.foldr _ (restSems d L) _ = _
  simp only [cells, List.map_cons, List.map_nil, List.foldr_cons, List.foldr_nil]

/-- The tile's buffers, one by one. -/
theorem bufs_split : (ownBufs (V d (cV L) (jV L)) : sProp 𝕄) = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ restBufs d L) := by
  unfold ownBufs
  refine (peel _ (refs.map fun r => (Proc.scVector (cV L) (jV L)).devRef r) _ (refs_nodup.map (Proc.devRef_injective _)) ?_).trans rfl
  intro g hg
  obtain ⟨s, hs, rfl⟩ := List.mem_map.mp hg
  exact SparseCore.Cfg.mem_ownRefs_of_owner (refs_owner _ _ s hs)

/-- The flat array of coordinates and the results' buffer. -/
abbrev vLoc : Loc nD τ sig := (SparseCore.T d).loc main_v0
abbrev oLoc : Loc nD τ sig := (SparseCore.T d).loc main_v1

/-- Tile `b`'s share of the coordinates. -/
def share (b : Nat) : PosShare TreeShare := Transfers.dealOf fullShare (Finset.univ : Finset (Fin 32)) ⟨b % 32, Nat.mod_lt _ (by decide)⟩

/-- What tile `b` works on: its share of the coordinates, and its row of the results at `f`. -/
def task (x : S9600000.Idx → F .f32) (f : S32x16.Idx → BitVec 32) (b : Nat) : sProp 𝕄 :=
  iprop((vLoc d ↦{share b} (x : Buf (Elt F) (vLoc d))) ∗ (oLoc d ↦[rowSet b]{fullShare} (f : Buf (Elt F) (oLoc d))))

/-- The row that the tile copies out to is its cloud's row of the results. -/
theorem row_eq (f : S32x16.Idx → BitVec 32) :
    (((rowK L).view.loc (V d (cV L) (jV L)) ↦[(rowK L).view.set]{fullShare} (f : Buf (Elt F) ((rowK L).view.loc (V d (cV L) (jV L))))) : sProp 𝕄) = (oLoc d ↦[rowSet (cloud L)]{fullShare} (f : Buf (Elt F) (oLoc d))) := by
  rw [set_rowK]

variable [FloatOps F]

set_option maxHeartbeats 1000000 in
/-- A tile's body over what the launch hands it. -/
theorem tile_body (x : S9600000.Idx → F .f32) (f0 : S32x16.Idx → BitVec 32) (hO : ∀ g, O g none = 0) :
    iprop(levAts (K (F := F)).L (K (F := F)).lev ∗ emp ∗ task d x f0 (cloud L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (cc0__fps_body (F := F) L xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23)
          fun _ => iprop(task d x (out x) (cloud L) ∗ scopedBufs (V d (cV L) (jV L)) ∗ scopedSems0 (V d (cV L) (jV L)) ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), sems_split, bufs_split]
  unfold task
  rw [← row_eq d L f0, ← row_eq d L (out x)]
  iintro ⟨#Hlv, -, ⟨Hx, Ho⟩, ⟨Hy, Hxb, Hzb, Hxw, Hzw, Hrb, Hbufs⟩, ⟨H0, H1, H2, H3, H4, H5, H6, H7, H8, H9, H10, H11, H12, H13, H14, H15, H16, H17, H18, H19, H20, H21, H22, H23, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  iapply (wp_wand_r _ _ _)
  isplitl [Hmw Hx Ho Hy Hxb Hzb Hxw Hzw Hrb H0 H1 H2 H3 H4 H5 H6 H7 H8 H9 H10 H11 H12 H13 H14 H15 H16 H17 H18 H19 H20 H21 H22 H23 HO]
  · iapply (wp_body d L O W (share (cloud L)) x f0 _ _ rfl rfl (scan_lt _ 6250 (le_refl _)))
    isplitl [Hmw]
    · iexact Hmw
    isplitl [Hx]
    · iexact Hx
    isplitl [Ho]
    · iexact Ho
    isplitl [Hy]
    · iexact Hy
    isplitl [Hxb]
    · iexact Hxb
    isplitl [Hzb]
    · iexact Hzb
    isplitl [Hxw]
    · iexact Hxw
    isplitl [Hzw]
    · iexact Hzw
    isplitl [Hrb]
    · iexact Hrb
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    unfold owed
    iexists W
    isplitr
    · ipureintro
      exact fun p hp => Or.inl hp
    · iexact HO
  iintro %_ ⟨Hx, Ho, Hy, Hxb, Hzb, Hxw, Hzw, Hrb, H0, H1, H2, H3, H4, H5, H6, H7, H8, H9, H10, H11, H12, H13, H14, H15, H16, H17, H18, H19, H20, H21, H22, H23, HO⟩
  isplitl [Hx Ho]
  · isplitl [Hx]
    · iexact Hx
    · iexact Ho
  isplitl [Hy Hxb Hzb Hxw Hzw Hrb Hbufs]
  · isplitl [Hy]
    · iexact Hy
    isplitl [Hxb]
    · iexact Hxb
    isplitl [Hzb]
    · iexact Hzb
    isplitl [Hxw]
    · iexact Hxw
    isplitl [Hzw]
    · iexact Hzw
    isplitl [Hrb]
    · iexact Hrb
    iexact Hbufs
  isplitl [H0 H1 H2 H3 H4 H5 H6 H7 H8 H9 H10 H11 H12 H13 H14 H15 H16 H17 H18 H19 H20 H21 H22 H23 Hsems]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact Hsems
  unfold owed
  iexact HO

end Cert.KernelIdeal.Fps
-- ==== Proof.Fps.Launch.lean ====
/- The launch: the coordinates dealt to the 32 tiles, each tile's row of the results brought back, and the
   program's run from the host's array to the host's two columns. -/
module

public import proofs.«01_k».proof.Proof.Fps.Task

@[expose] public section

set_option maxRecDepth 65536

noncomputable section

namespace Cert.KernelIdeal.Fps

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.SparseCore.Cfg (HIx Pay ownBufs ownSems0 ownCells ownRefs mem_ownCells mem_ownRefs)

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S9600000 EltTy.f32)
local notation "oV" => (Memref.whole Cert.KernelIdeal.main_v1_scv : Memref Cert.KernelIdeal.sig Kind.scVector Space.hbm Cert.KernelIdeal.S32x16 EltTy.i32)
local notation "yB" => (Memref.whole Cert.KernelIdeal.cc0_scratch0 : Memref Cert.KernelIdeal.sig Kind.scVector Space.vmem Cert.KernelIdeal.S100000 EltTy.f32)
local notation "xB" => (Memref.whole Cert.KernelIdeal.cc0_scratch1 : Memref Cert.KernelIdeal.sig Kind.scVector Space.vmem Cert.KernelIdeal.S10000 EltTy.f32)
local notation "zB" => (Memref.whole Cert.KernelIdeal.cc0_scratch2 : Memref Cert.KernelIdeal.sig Kind.scVector Space.vmem Cert.KernelIdeal.S10000 EltTy.f32)
local notation "xW" => (Memref.whole Cert.KernelIdeal.cc0_scratch3 : Memref Cert.KernelIdeal.sig Kind.scVector Space.vmem Cert.KernelIdeal.S16 EltTy.f32)
local notation "zW" => (Memref.whole Cert.KernelIdeal.cc0_scratch4 : Memref Cert.KernelIdeal.sig Kind.scVector Space.vmem Cert.KernelIdeal.S16 EltTy.f32)
local notation "rB" => (Memref.whole Cert.KernelIdeal.cc0_scratch5 : Memref Cert.KernelIdeal.sig Kind.scVector Space.vmem Cert.KernelIdeal.S16 EltTy.i32)

variable (d : Dev nD) (L : grid0.Coords) (O : CellTallies nD τ sig (HIx 1)) (W : Waits sig (HIx 1))

variable [FloatOps F]
variable (m : (ℓ : Loc nD τ sig) → Buf (Elt F) ℓ) (ρ : Dev nD → PrngReg)

abbrev aLoc : Loc nD τ sig := (SparseCore.T d).loc main_arg0
abbrev rLoc : Loc nD τ sig := (SparseCore.T d).loc main_v2

/-- The host's array, flat; and the host's result. -/
def flatOf (A : S1x32x3x100000.Idx → F .f32) : S9600000.Idx → F .f32 := shapeCast S9600000 A shapeCasts_S1x32x3x100000_S9600000
def columnsOf (A : S1x32x3x100000.Idx → F .f32) : S32x2.Idx → BitVec 32 := extractStridedSlice S32x2 ![0, 0] (out (flatOf A)) slices_S32x16_S32x2_0_0

abbrev Xv : S9600000.Idx → F .f32 := flatOf (m (aLoc d))
abbrev Rv : S32x2.Idx → BitVec 32 := columnsOf (m (aLoc d))

/-- The one call: each tile takes its share of the coordinates and its row, and brings them back with the row
    written; a SparseCore takes and brings what its tiles do. -/
def P : (K (F := F)).Pay (nD := nD) (Val := Elt F) (Name := ℕ) (U := UU) where
  st := fun q d c => bigSep Finset.univ fun i : Fin ((K (F := F)).nSub q) => task d (Xv d m) (m (oLoc d)) (2 * i.val + c.val)
  dn := fun q d c => bigSep Finset.univ fun i : Fin ((K (F := F)).nSub q) => task d (Xv d m) (out (Xv d m)) (2 * i.val + c.val)
  go := fun _ d c i => task d (Xv d m) (m (oLoc d)) (2 * i.val + c.val)
  td := fun _ d c i => task d (Xv d m) (out (Xv d m)) (2 * i.val + c.val)
  x := fun _ _ => iprop(emp)

instance task_storable (x : S9600000.Idx → F .f32) (f : S32x16.Idx → BitVec 32) (b : Nat) : BI.Storable (upEmb : UEmb _ 𝕄) (task d x f b) := by
  unfold task
  infer_instance

instance P_storable : (P (F := F) m).IsStorable where
  st q d c := (inferInstance : BI.Storable (upEmb : UEmb _ 𝕄) (bigSep Finset.univ fun i : Fin ((K (F := F)).nSub q) => task d (Xv d m) (m (oLoc d)) (2 * i.val + c.val)))
  dn q d c := (inferInstance : BI.Storable (upEmb : UEmb _ 𝕄) (bigSep Finset.univ fun i : Fin ((K (F := F)).nSub q) => task d (Xv d m) (out (Xv d m)) (2 * i.val + c.val)))
  go _ d c i := task_storable d (Xv d m) (m (oLoc d)) (2 * i.val + c.val)
  td _ d c i := task_storable d (Xv d m) (out (Xv d m)) (2 * i.val + c.val)

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs at the launch: the kernel's body at its own coordinates. -/
theorem defs₀_vector (c : Fin τ.nSC) (s : Fin τ.nSub) :
    defs₀ (F := F) (.scVector c s) 0 ()
      = SparseCore.onTile hcore0 hsub0 (fun c s => cc0__fps_body (F := F) (coordsV c s) xV (Memref.isWhole_whole _) oV (Memref.isWhole_whole _) yB (Memref.isWhole_whole _) xB (Memref.isWhole_whole _) zB (Memref.isWhole_whole _) xW (Memref.isWhole_whole _) zW (Memref.isWhole_whole _) rB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23) ⟨⟩ c s := rfl

/-- The waits that a tile ends with may also name the launch itself. -/
theorem widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]
  · iexact HA
  isplitl [HB]
  · iexact HB
  isplitl [HC]
  · iexact HC
  iexists W'
  isplitr
  · ipureintro
    exact fun p hp => (h p hp).imp_right Or.inl
  · iexact HO

/-- The tile's obligation: from what it is handed, its body ends with what it hands back. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨_, hci.1⟩ ⟨_, hci.2⟩) O W (Xv d m) (m (oLoc d)) hO).trans (wp_mono frame _ _ fun _ => widen)

/-- A SparseCore's share is already the sum of its tiles' shares, before and after. -/
theorem vecSplit : (K (F := F)).VecSplit' (P m) 0 := by
  intro d c
  show (P m).st 0 d c ⊢ |={Set.univ}=> iprop((P m).st 0 d c ∗ ((P m).dn 0 d c -∗ (P m).dn 0 d c))
  iintro H
  imodintro
  isplitl [H]
  · iexact H
  · iintro H
    iexact H

/-! ## The deal and the return -/

/-- The rows of two different clouds share no word of the results. -/
theorem rows_disjoint : ∀ i ∈ (Finset.univ : Finset (Fin 32)), ∀ j ∈ (Finset.univ : Finset (Fin 32)), i ≠ j → Disjoint (rowSet i.val) (rowSet j.val) := by
  intro i _ j _ h
  rw [Finset.disjoint_left]
  intro a ha hb
  unfold rowSet at ha hb
  exact h (Fin.ext ((Finset.mem_filter.mp ha).2.symm.trans (Finset.mem_filter.mp hb).2))

/-- The 32 clouds' rows are all of the results. -/
theorem rows_cover : (Finset.univ : Finset (Fin 32)).biUnion (fun b => rowSet b.val) = Finset.univ := by
  refine Finset.eq_univ_of_forall fun a => Finset.mem_biUnion.mpr ⟨⟨(a 0).val, (a 0).isLt⟩, Finset.mem_univ _, ?_⟩
  unfold rowSet
  exact Finset.mem_filter.mpr ⟨Finset.mem_univ _, rfl⟩

/-- The whole of both arrays is the 32 tiles' parts of them. -/
theorem tasks_eq (x : S9600000.Idx → F .f32) (f : S32x16.Idx → BitVec 32) :
    (iprop((vLoc d ↦{fullShare} (x : Buf (Elt F) (vLoc d))) ∗ (oLoc d ↦{fullShare} (f : Buf (Elt F) (oLoc d)))) : sProp 𝕄)
      = bigSep Finset.univ fun b : Fin 32 => task d x f b.val := by
  unfold task
  rw [bigSep_sep']
  congr 1
  · rw [Transfers.pointsTo_deal (Finset.univ : Finset (Fin 32)) ⟨0, Finset.mem_univ _⟩ fullShare]
    refine bigSep_congr fun b _ => ?_
    unfold share
    rw [show (⟨b.val % 32, Nat.mod_lt _ (by decide)⟩ : Fin 32) = b from Fin.ext (Nat.mod_eq_of_lt b.isLt)]
  · rw [← pointsTo_biUnion Finset.univ (ℓ := oLoc d) (fun b : Fin 32 => rowSet b.val) rows_disjoint, rows_cover]

/-- The 32 tiles, by SparseCore and then by tile of it. -/
theorem tiles_eq (Φ : Nat → sProp 𝕄) :
    (bigSep Finset.univ fun c : Fin 2 => bigSep Finset.univ fun i : Fin 16 => Φ (2 * i.val + c.val)) = bigSep Finset.univ fun b : Fin 32 => Φ b.val := by
  rw [bigSep_univ_equiv ((Equiv.prodComm (Fin 2) (Fin 16)).trans finProdFinEquiv) fun b : Fin (16 * 2) => Φ b.val,
    ← Finset.univ_product_univ, SparseCore.bigSep_product]
  refine bigSep_congr fun c _ => bigSep_congr fun i _ => congrArg Φ ?_
  show 2 * i.val + c.val = c.val + 2 * i.val
  exact Nat.add_comm _ _

/-- What the SparseCores are handed, all together: the flat coordinates and the results as they were. -/
theorem st_eq : (bigSep Finset.univ fun c : Fin ((K (F := F)).nCore 0) => (P m).st 0 d c)
    = iprop((vLoc d ↦{fullShare} (Xv d m : Buf (Elt F) (vLoc d))) ∗ (oLoc d ↦{fullShare} m (oLoc d))) :=
  (tiles_eq fun b => task d (Xv d m) (m (oLoc d)) b).trans (tasks_eq d (Xv d m) (m (oLoc d))).symm
/-- What the SparseCores hand back, all together: the flat coordinates and the results written. -/
theorem dn_eq : (bigSep Finset.univ fun c : Fin ((K (F := F)).nCore 0) => (P m).dn 0 d c)
    = iprop((vLoc d ↦{fullShare} (Xv d m : Buf (Elt F) (vLoc d))) ∗ (oLoc d ↦{fullShare} (out (Xv d m) : Buf (Elt F) (oLoc d)))) :=
  (tiles_eq fun b => task d (Xv d m) (out (Xv d m)) b).trans (tasks_eq d (Xv d m) (out (Xv d m))).symm

/-! ## The host's part -/

abbrev a' : DevRef τ sig := Proc.devRef .tc (main_arg0 : Ref sig .tc)
abbrev v' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opFlat : HloOp τ sig (Elt F) := StableHlo.reshape main_arg0 main_v0 rfl shapeCasts_S1x32x3x100000_S9600000
abbrev opCols : HloOp τ sig (Elt F) := StableHlo.unary main_v1 main_v2 (extractStridedSlice S32x2 ![0, 0] · slices_S32x16_S32x2_0_0)

/-- The host's four arrays. -/
abbrev S4 : Finset (DevRef τ sig) := {a', v', o', r'}

/-- Holding the host's four arrays is holding each of them. -/
theorem held_S4 (U : Valuation τ sig (Elt F)) :
    (held (T d) S4 U : sProp 𝕄) = iprop((aLoc d ↦{fullShare} U a') ∗ (vLoc d ↦{fullShare} U v') ∗ (oLoc d ↦{fullShare} U o') ∗ rLoc d ↦{fullShare} U r') := by
  unfold held S4
  rw [SparseCore.bigSep_insert' (by decide), SparseCore.bigSep_insert' (by decide), SparseCore.bigSep_insert' (by decide), bigSep_singleton]

/-- The host's arrays at the start are the four. -/
theorem unscoped_S4 (U : (b : Ref sig .tc) → Buf (Elt F) ((d.tc : Thread nD τ).loc b)) :
    (unscopedBufs d U : sProp 𝕄) = iprop((aLoc d ↦{fullShare} U main_arg0) ∗ (vLoc d ↦{fullShare} U main_v0) ∗ (oLoc d ↦{fullShare} U main_v1) ∗ rLoc d ↦{fullShare} U main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch's arrays; and, after the call, the results written. -/
def V0 : Valuation τ sig (Elt F) := fun b => m (d, b)
def V1 : Valuation τ sig (Elt F) := (opFlat (F := F)).result (V0 d m)
def V2 : Valuation τ sig (Elt F) := Function.update (V1 d m) o' (out (Xv d m))

/-- The host's arrays at the start are held at the values of the launch. -/
theorem unscoped_held : (unscopedBufs d (fun b => m ((SparseCore.T d).loc b)) : sProp 𝕄) = held (T d) S4 (V0 d m) := by
  rw [unscoped_S4, held_S4]
  rfl

/-- The flattening leaves the argument as it was. -/
theorem V1_a : V1 d m a' = m (aLoc d) := (opFlat (F := F)).result_of_not_mem _ (show a' ∉ ({v'} : Finset (DevRef τ sig)) by decide)
/-- The flattening leaves the kernel's results as they were. -/
theorem V1_o : V1 d m o' = m (oLoc d) := (opFlat (F := F)).result_of_not_mem _ (show o' ∉ ({v'} : Finset (DevRef τ sig)) by decide)
/-- The flattening writes the flat coordinates. -/
theorem V1_v : V1 d m v' = Xv d m := StableHlo.reshape_result main_arg0 main_v0 rfl shapeCasts_S1x32x3x100000_S9600000 _ _ _
/-- The call leaves the argument as it was. -/
theorem V2_a : V2 d m a' = m (aLoc d) := (Function.update_of_ne (show a' ≠ o' by decide) _ _).trans (V1_a d m)
/-- The call leaves the flat coordinates as they were. -/
theorem V2_v : V2 d m v' = V1 d m v' := Function.update_of_ne (show v' ≠ o' by decide) _ _
/-- The call leaves the program's result as it was. -/
theorem V2_r : V2 d m r' = V1 d m r' := Function.update_of_ne (show r' ≠ o' by decide) _ _
/-- The call writes the kernel's results. -/
theorem V2_o : V2 d m o' = out (Xv d m) := Function.update_self _ _ _

/-- The host's arrays after the flattening. -/
theorem held_V1 : (held (T d) S4 ((opFlat (F := F)).result (V0 d m)) : sProp 𝕄)
    = iprop((aLoc d ↦{fullShare} m (aLoc d)) ∗ (vLoc d ↦{fullShare} (Xv d m : Buf (Elt F) (vLoc d))) ∗ (oLoc d ↦{fullShare} m (oLoc d)) ∗ rLoc d ↦{fullShare} V1 d m r') := by
  show held (SparseCore.T d) S4 (V1 d m) = _
  rw [held_S4, V1_a, V1_v, V1_o]

/-- The host's arrays at the end: the argument as it was, and the two columns in the program's result. -/
theorem held_V3 : (held (T d) S4 ((opCols (F := F)).result (V2 d m)) : sProp 𝕄)
    = iprop((aLoc d ↦{fullShare} m (aLoc d)) ∗ (vLoc d ↦{fullShare} (opCols (F := F)).result (V2 d m) v') ∗ (oLoc d ↦{fullShare} (opCols (F := F)).result (V2 d m) o')
        ∗ rLoc d ↦{fullShare} (Rv d m : Buf (Elt F) (rLoc d))) := by
  rw [held_S4, (opCols (F := F)).result_of_not_mem (V2 d m) (b := a') (show a' ∉ ({r'} : Finset (DevRef τ sig)) by decide), V2_a,
    show (opCols (F := F)).result (V2 d m) r' = Rv d m from (StableHlo.unary_result _ _ _ _ _ _).trans (by rw [V2_o]; rfl)]

/-- The flattening touches the host's four arrays only. -/
theorem flat_sub : (opFlat (F := F)).bufs ⊆ S4 := show ({a', v'} : Finset (DevRef τ sig)) ⊆ S4 by decide
/-- Taking the columns touches the host's four arrays only. -/
theorem cols_sub : (opCols (F := F)).bufs ⊆ S4 := show ({o', r'} : Finset (DevRef τ sig)) ⊆ S4 by decide

/-- What the run leaves to read: the argument as it was, the result's two columns. -/
abbrev FIN : sProp 𝕄 := iprop((aLoc d ↦{fullShare} m (aLoc d)) ∗ rLoc d ↦{fullShare} (Rv d m : Buf (Elt F) (rLoc d)))

/-- The host's program: the array made flat, the call, its first two columns taken. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN d m ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S4) flat_sub (V := V0 d m)) $$ [Hb Hheld]
  · isplitl [Hb] <;> iassumption
  iintro ⟨Hb, Hheld⟩
  rw [wp_ret]
  imodintro
  ihave Hh := (Entails.of_eq (held_V1 (F := F) d m)) $$ Hheld
  icases Hh with ⟨Ha, Hv, Ho, Hr⟩
  iapply ((K (F := F)).wp_run (D (F := F)) 𝒱 (EH := EH) (P := P m) κ d 0) $$ [Hst Ha Hv Ho Hr Hb Hts]
  isplitr
  · iexact Hctx
  isplitl [Hst]
  · iexact Hst
  isplitl [Hv Ho]
  · rw [st_eq]
    isplitl [Hv]
    · iexact Hv
    · iexact Ho
  iintro ⟨Hst, Hdn⟩
  ihave Hdn' := (Entails.of_eq (dn_eq d m)) $$ Hdn
  icases Hdn' with ⟨Hv, Ho⟩
  iapply (wp_hlo_within 𝒱 (SparseCore.T d) none Set.univ (op := opCols) (S := S4) cols_sub (V := V2 d m)) $$ [Hb Ha Hv Ho Hr]
  · isplitl [Hb]
    · iexact Hb
    rw [held_S4, V2_a, V2_v, V1_v, V2_o, V2_r]
    isplitl [Ha]
    · iexact Ha
    isplitl [Hv]
    · iexact Hv
    isplitl [Ho]
    · iexact Ho
    · iexact Hr
  iintro ⟨Hb, Hheld⟩
  ihave Hh := (Entails.of_eq (held_V3 (F := F) d m)) $$ Hheld
  icases Hh with ⟨Ha, -, -, Hr⟩
  rw [wp_ret]
  imodintro
  imodintro
  isplitl [Hst]
  · iexact Hst
  isplitr [Hb Hts]
  · isplitl [Ha]
    · iexact Ha
    · iexact Hr
  isplitl [Hb] <;> iassumption

/-! ## The run -/

def u₀ : UU := (initOf (K (F := F)).hsCells (K (F := F)).hsToks, 1)

/-- Nothing, any number of times, is nothing. -/
theorem emps {I : Type} (s : Finset I) : (bigSep s fun _ => iprop(emp)) = (iprop(emp) : sProp 𝕄) := bigSep_emp_const s

/-- What the run is given at the start holds the hand-shakes of the launch, and nothing else is asked of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]
  · iexact HH
  isplitr
  · rw [emps]
    iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

def fq (d : Dev nD) (s' : Phys nD τ sig (Elt F)) : Prop := s'.mem.mem (rLoc d) = Rv d m ∧ s'.mem.mem (aLoc d) = m (aLoc d)

/-- Where the host's last state is held, the memory has the result's columns and the argument as it was. -/
theorem hfin (d : Dev nD) (s' : Phys nD τ sig (Elt F)) : iprop(FIN d m ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := Rv d m)) $$ [HSI Hr]
  · isplitl [HSI] <;> iassumption
  icases H with %hr
  ipureintro
  exact ⟨funext fun i => hr i (Finset.mem_univ i), funext fun i => ha i (Finset.mem_univ i)⟩

/-- What the run ends in. -/
def Ended : PUnit × MemSt nD τ sig (Elt F) → Prop := fun r => (∀ c : Dev nD, r.2.mem (rLoc c) = Rv c m ∧ r.2.mem (aLoc c) = m (aLoc c)) ∧ r.2.sem = fun _ => 0

/-- The program, over any float values, ends with the result's columns and its argument as it was. -/
theorem run_main [∀ e, Nonempty (Elt F e)] : θ_run (Cert.KernelIdeal.defs (F := F)) (Cert.KernelIdeal.threads (F := F)) ⟨m, fun _ => 0, ρ⟩ (Ended m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (fun d => FIN d m) (u₀ (F := F)) (sep_elim_left.trans (hu₀ m)) (hmain m ρ) (fq m) (hfin m) (Ended m) (fun _ h hz => ⟨h, hz⟩)

end Cert.KernelIdeal.Fps
-- ==== Proof.Fps.Reference.lean ====
/- What the reference computes: row `b` of its result is the first maximum of the second coordinate of
   cloud `b`, then the first maximum of the capped squared distances from that point. -/
module

public import proofs.«01_k».proof.Defs
public import proofs.«01_k».proof.Proof.Gen.ReferenceIdeal
public import proofs.«01_k».proof.Proof.Fps.FirstMax
public import Idealize.ShloMosaic.Lib.Claim

@[expose] public section

set_option maxRecDepth 16384

noncomputable section

namespace Cert.ReferenceIdeal.Fps

open Cert.ReferenceIdeal Cert.ReferenceIdeal.Gen Idealize.ShloMosaic Idealize.SL.Sem
open Cert.Fps

/-- The reducer returns the operand that comes first. -/
theorem picks : Picks (reducer_argmax_f32_i32 (F := Ideal)) := by
  intro a b
  obtain ⟨a1, a2⟩ := a
  obtain ⟨b1, b2⟩ := b
  rcases lt_trichotomy a1 b1 with h | h | h
  · have h1 : ¬ b1 < a1 := not_lt.2 h.le
    have h2 : ¬ a1 = b1 := h.ne
    simp [reducer_argmax_f32_i32, Ideal.cmpf_def, Ideal.cmp, h1, h2, IntOp.ori, IntOp.andi, Scalar.select, Beats, h]
  · subst h
    by_cases hs : a2.slt b2
    · have := hs
      rw [BitVec.slt_iff_toInt_lt] at this
      simp [reducer_argmax_f32_i32, Ideal.cmpf_def, Ideal.cmp, IntOp.ori, IntOp.andi, IntOp.cmpi, Scalar.select, Beats, hs, this.le]
    · have := hs
      rw [BitVec.slt_iff_toInt_lt, not_lt] at this
      simp [reducer_argmax_f32_i32, Ideal.cmpf_def, Ideal.cmp, IntOp.ori, IntOp.andi, IntOp.cmpi, Scalar.select, Beats, hs, this]
  · have h1 : ¬ a1 < b1 := not_lt.2 h.le
    have h2 : ¬ a1 = b1 := h.ne'
    simp [reducer_argmax_f32_i32, Ideal.cmpf_def, Ideal.cmp, h1, h2, IntOp.ori, IntOp.andi, Scalar.select, Beats, h]

/-- The host's arg-max along a cloud, as printed: the index component, over its four operands. -/
def argmaxOf (x : FVec Ideal S32x100000 .f32) (iot : IVec S32x100000 32) (st : FVec Ideal S_ .f32) (sz : IVec S_ 32) : IVec S32 32 :=
  fun j => (Host.argReduce reducer_argmax_f32_i32 x iot st sz Gen.reducesTo_S32x100000_S32_d1 Gen.h_S_ j).2

/-- The same as a function. -/
theorem argmaxOf_eq : argmaxOf = fun x iot st sz j =>
    (Host.argReduce reducer_argmax_f32_i32 x iot st sz Gen.reducesTo_S32x100000_S32_d1 Gen.h_S_ j).2 := rfl

/-- The arg-max at the operands that the reference gives it. -/
def argmax (x : FVec Ideal S32x100000 .f32) : IVec S32 32 :=
  argmaxOf x (iotaInDim S32x100000 32 1) (constant S_ .f32 0xFF800000#32) (constantI S_ 32 0#32)

/-- Along a cloud: the indices that drop to `b`. -/
theorem drop_row (b : Fin 32) (k : Fin 100000) :
    (Gen.reducesTo_S32x100000_S32_d1).drop (ix2 b k) = ix1 b := by
  funext a
  fin_cases a
  apply Fin.ext
  exact Shape.ReducesTo.drop_apply_val_of_eq _ (ix2 b k) 0 0

/-- The positions that reduce to cloud `b` are those of its row. -/
theorem row_of_drop (b : Fin 32) (q : S32x100000.Idx) (hq : (Gen.reducesTo_S32x100000_S32_d1).drop q = ix1 b) :
    ∃ k : Fin 100000, q = ix2 b k := by
  idx_vars q
  refine ⟨q1, ?_⟩
  have hb : q0 = b := by
    apply Fin.ext
    have h0 := Shape.ReducesTo.drop_apply_val_of_eq Gen.reducesTo_S32x100000_S32_d1 (ix2 q0 q1) 0 0
    rw [congrFun hq 0] at h0
    exact h0.symm
  rw [hb]

/-- The index array holds each point's own number. -/
theorem iota_row (b : Fin 32) (k : Fin 100000) : iotaInDim S32x100000 32 1 (ix2 b k) = BitVec.ofNat 32 k.val := rfl

/-- The maximum starts at minus infinity. -/
theorem start_bot (i : S_.Idx) : constant (F := Ideal) S_ .f32 0xFF800000#32 i = (⊥ : EReal) := ofBits_neg_inf

/-- The index starts at 0. -/
theorem start_zero (i : S_.Idx) : constantI S_ 32 0#32 i = 0#32 := rfl

/-- The fold reads the first maximum, over any start and index operand of the stated values. -/
theorem argReduce_first (iot : S32x100000.Idx → BitVec 32) (st : S_.Idx → Ideal .f32) (sz : S_.Idx → BitVec 32)
    (hi : ∀ (b : Fin 32) (k : Fin 100000), iot (ix2 b k) = BitVec.ofNat 32 k.val) (hs : ∀ i, st i = (⊥ : EReal))
    (hz : ∀ i, sz i = 0#32) (x : FVec Ideal S32x100000 .f32) (b : Fin 32) :
    ∃ k : Fin 100000, FirstMax (fun n => x (ix2 b n)) k
      ∧ argmaxOf x iot st sz (ix1 b) = BitVec.ofNat 32 k.val := by
  have hn : 0 < 100000 := by norm_num
  have hn' : 100000 ≤ 100000 := le_refl _
  rw [argmaxOf_eq]
  exact picks.argReduce_first x _ _ _ Gen.reducesTo_S32x100000_S32_d1 Gen.h_S_ (ix1 b) hn hn'
    (fun n => ix2 b n) (drop_row b) (row_of_drop b) (hi b) hs hz

/-- It is the word of the first maximum. -/
theorem argmax_first (x : FVec Ideal S32x100000 .f32) (b : Fin 32) :
    ∃ k : Fin 100000, FirstMax (fun n => x (ix2 b n)) k ∧ argmax x (ix1 b) = BitVec.ofNat 32 k.val :=
  argReduce_first _ _ _ iota_row start_bot start_zero x b

/-- The clouds, each a list of points. -/
def pts (A : FVec Ideal S1x32x3x100000 .f32) : FVec Ideal S32x100000x3 .f32 :=
  shapeCast S32x100000x3 (transpose S1x32x100000x3 [0, 1, 3, 2] A Gen.transposes_S1x32x3x100000_S1x32x100000x3_0_1_3_2) Gen.shapeCasts_S1x32x100000x3_S32x100000x3

/-- The transposed points are the argument's coordinates. -/
theorem pts_apply (A : FVec Ideal S1x32x3x100000 .f32) (b : Fin 32) (n : Fin 100000) (a : Fin 3) :
    pts A (ix3 b n a) = A (ix4 0 b a n) := by
  pointwise [pts]

/-- The second coordinates. -/
def ys (A : FVec Ideal S1x32x3x100000 .f32) : FVec Ideal S32x100000 .f32 :=
  shapeCast S32x100000 (extractStridedSlice S32x100000x1 ![0, 0, 1] (pts A) Gen.slices_S32x100000x3_S32x100000x1_0_0_1) Gen.shapeCasts_S32x100000x1_S32x100000

/-- The second coordinates are the argument's. -/
theorem ys_apply (A : FVec Ideal S1x32x3x100000 .f32) (b : Fin 32) (n : Fin 100000) :
    ys A (ix2 b n) = A (ix4 0 b 1 n) := by
  have h : ys A (ix2 b n) = pts A (ix3 b n 1) := by pointwise [ys]
  rw [h, pts_apply]

/-- A list of indices with the negative ones moved up by `n`. -/
def wrap (n : BitVec 32) (i : IVec S32 32) : IVec S32 32 :=
  select (cmpi .slt i (broadcastInDim S32 ![] Gen.bcast_S_S32 (constantI S_ 32 0#32)))
    (addi i (broadcastInDim S32 ![] Gen.bcast_S_S32 (constantI S_ 32 n))) i

/-- It keeps an index that is not negative. -/
theorem wrap_apply (n : BitVec 32) (i : IVec S32 32) (b : Fin 32) (k : Nat) (hk : k < 2 ^ 31)
    (hi : i (ix1 b) = BitVec.ofNat 32 k) : wrap n i (ix1 b) = BitVec.ofNat 32 k := by
  have hs : BitVec.slt (BitVec.ofNat 32 k) 0#32 = false := by
    rw [← Bool.not_eq_true, BitVec.slt_iff_toInt_lt, toInt_ofNat_small k hk]
    simp
  show Scalar.select (IntOp.cmpi .slt (i (ix1 b)) 0#32) (IntOp.addi (i (ix1 b)) n) (i (ix1 b)) = _
  rw [hi]
  show Scalar.select (BitVec.ofBool (BitVec.slt (BitVec.ofNat 32 k) 0#32)) _ _ = _
  rw [hs]
  rfl

/-- Two columns side by side. -/
def columns (p q : IVec S32 32) : IVec S32x2 32 :=
  concatenate S32x2 1 [⟨S32x1, broadcastInDim S32x1 ![0] Gen.bcast_S32_S32x1_0 p⟩,
    ⟨S32x1, broadcastInDim S32x1 ![0] Gen.bcast_S32_S32x1_0 q⟩] Gen.concatenates_S32x1_S32x1_S32x2_d1

/-- The first column of the result is the first array. -/
theorem columns_zero (p q : IVec S32 32) (b : Fin 32) : columns p q (ix2 b 0) = p (ix1 b) := by
  pointwise [columns]

/-- The second column of the result is the second array. -/
theorem columns_one (p q : IVec S32 32) (b : Fin 32) : columns p q (ix2 b 1) = q (ix1 b) := by
  pointwise [columns]

/-- The gathered points. -/
def cents (x : FVec Ideal S32x100000x3 .f32) (st : IVec S32x2 32) : FVec Ideal S32x3 .f32 :=
  Host.gather gather_S32x100000x3_S32x2_S32x3_1_01_n_n_01_1_113 x st

/-- The gathered points are those that the start indices name. -/
theorem cents_apply (x : FVec Ideal S32x100000x3 .f32) (st : IVec S32x2 32) (b : Fin 32) (k : Fin 100000) (a : Fin 3)
    (h0 : st (ix2 b 0) = BitVec.ofNat 32 b.val) (h1 : st (ix2 b 1) = BitVec.ofNat 32 k.val) :
    cents x st (ix2 b a) = x (ix3 b k a) := by
  unfold cents Host.gather
  congr 1
  funext e
  refine Fin.ext ?_
  show GatherDims.start _ (ix2 b a) st e + GatherDims.batchCoord _ (ix2 b a) e + GatherDims.offCoord _ (ix2 b a) e = _
  rw [GatherDims.batchCoord_eq_zero _ _ _ List.not_mem_nil, Nat.add_zero]
  match e with
  | ⟨0, h⟩ =>
    rw [GatherDims.offCoord_eq_zero _ _ _ (show (⟨0, h⟩ : Fin S32x100000x3.rank) ∉ GatherDims.sKept gather_S32x100000x3_S32x2_S32x3_1_01_n_n_01_1_113 by revert h; decide)]
    unfold GatherDims.start
    rw [dif_pos (show (⟨0, h⟩ : Fin S32x100000x3.rank) ∈ GatherDims.startIndexMap gather_S32x100000x3_S32x2_S32x3_1_01_n_n_01_1_113 by revert h; decide)]
    have hsi : GatherDims.siIdx gather_S32x100000x3_S32x2_S32x3_1_01_n_n_01_1_113 (ix2 b a) ⟨0, by decide⟩ = ix2 b 0 := by
      funext c; refine Fin.ext ?_
      match c with
      | ⟨0, _⟩ => rfl
      | ⟨1, _⟩ => rfl
    show min (st (GatherDims.siIdx gather_S32x100000x3_S32x2_S32x3_1_01_n_n_01_1_113 (ix2 b a) ⟨0, by decide⟩)).toInt.toNat (32 - 1) + 0 = b.val
    rw [hsi, h0, toInt_ofNat_small _ (by omega)]
    omega
  | ⟨1, h⟩ =>
    rw [GatherDims.offCoord_eq_zero _ _ _ (show (⟨1, h⟩ : Fin S32x100000x3.rank) ∉ GatherDims.sKept gather_S32x100000x3_S32x2_S32x3_1_01_n_n_01_1_113 by revert h; decide)]
    unfold GatherDims.start
    rw [dif_pos (show (⟨1, h⟩ : Fin S32x100000x3.rank) ∈ GatherDims.startIndexMap gather_S32x100000x3_S32x2_S32x3_1_01_n_n_01_1_113 by revert h; decide)]
    have hsi : GatherDims.siIdx gather_S32x100000x3_S32x2_S32x3_1_01_n_n_01_1_113 (ix2 b a) ⟨1, by decide⟩ = ix2 b 1 := by
      funext c; refine Fin.ext ?_
      match c with
      | ⟨0, _⟩ => rfl
      | ⟨1, _⟩ => rfl
    show min (st (GatherDims.siIdx gather_S32x100000x3_S32x2_S32x3_1_01_n_n_01_1_113 (ix2 b a) ⟨1, by decide⟩)).toInt.toNat (100000 - 1) + 0 = k.val
    rw [hsi, h1, toInt_ofNat_small _ (by omega)]
    omega
  | ⟨2, h⟩ =>
    unfold GatherDims.start
    rw [dif_neg (show (⟨2, h⟩ : Fin S32x100000x3.rank) ∉ GatherDims.startIndexMap gather_S32x100000x3_S32x2_S32x3_1_01_n_n_01_1_113 by revert h; decide)]
    unfold GatherDims.offCoord
    rw [dif_pos (show (⟨2, h⟩ : Fin S32x100000x3.rank) ∈ GatherDims.sKept gather_S32x100000x3_S32x2_S32x3_1_01_n_n_01_1_113 by revert h; decide)]
    exact Nat.zero_add _

/-- The squared distances from the gathered points. -/
def dists (x : FVec Ideal S32x100000x3 .f32) (c : FVec Ideal S32x3 .f32) : FVec Ideal S32x100000 .f32 :=
  Host.reduceAdd (mulf (subf x (broadcastInDim S32x100000x3 ![0, 1, 2] Gen.bcast_S32x1x3_S32x100000x3_0_1_2 (shapeCast S32x1x3 c Gen.shapeCasts_S32x3_S32x1x3)))
      (subf x (broadcastInDim S32x100000x3 ![0, 1, 2] Gen.bcast_S32x1x3_S32x100000x3_0_1_2 (shapeCast S32x1x3 c Gen.shapeCasts_S32x3_S32x1x3))))
    (constant S_ .f32 0x00000000#32) Gen.reducesTo_S32x100000x3_S32x100000_d2 Gen.h_S_

/-- The squared distances are the sum over the three coordinates. -/
theorem dists_apply (x : FVec Ideal S32x100000x3 .f32) (c : FVec Ideal S32x3 .f32) (b : Fin 32) (n : Fin 100000) :
    dists x c (ix2 b n) = ∑ a : Fin 3, (x (ix3 b n a) - c (ix2 b a)) * (x (ix3 b n a) - c (ix2 b a)) := by
  pointwise [dists]

/-- The distances kept below the cap. -/
def capped (d : FVec Ideal S32x100000 .f32) : FVec Ideal S32x100000 .f32 :=
  select (cmpf .olt d (broadcastInDim S32x100000 ![] Gen.bcast_S_S32x100000 (constant S_ .f32 0x501502F9#32))) d
    (broadcastInDim S32x100000 ![] Gen.bcast_S_S32x100000 (constant S_ .f32 0x501502F9#32))

/-- The capped distances are the smaller of distance and cap. -/
theorem capped_apply (d : FVec Ideal S32x100000 .f32) (j : S32x100000.Idx) : capped d j = min (d j) cap := by
  show Scalar.select (Ideal.cmp .olt (d j) cap) (d j) cap = _
  unfold Ideal.cmp
  rcases lt_or_ge (d j) cap with h | h
  · simp [h, min_eq_left h.le, Scalar.select]
  · simp [not_lt.2 h, min_eq_right h, Scalar.select]

/-- The reference's first indices. -/
def firsts (A : FVec Ideal S1x32x3x100000 .f32) : IVec S32 32 := argmax (ys A)

/-- The reference's second indices. -/
def seconds (A : FVec Ideal S1x32x3x100000 .f32) : IVec S32 32 :=
  argmax (capped (dists (pts A) (cents (pts A) (columns (wrap 32#32 (iotaInDim S32 32 0)) (wrap 100000#32 (firsts A))))))

/-- Both, in terms of the argument: the first maximum of `y`, then of the capped distances from it. -/
theorem sample (A : FVec Ideal S1x32x3x100000 .f32) (b : Fin 32) :
    ∃ k l : Fin 100000, FirstMax (fun n => A (ix4 0 b 1 n)) k
      ∧ FirstMax (fun n => capDist (fun a n => A (ix4 0 b a n)) k n) l
      ∧ firsts A (ix1 b) = BitVec.ofNat 32 k.val ∧ seconds A (ix1 b) = BitVec.ofNat 32 l.val := by
  obtain ⟨k, hk, ek⟩ := argmax_first (ys A) b
  have hy : (fun n => ys A (ix2 b n)) = fun n => A (ix4 0 b 1 n) := funext fun n => ys_apply A b n
  rw [hy] at hk
  obtain ⟨l, hl, el⟩ := argmax_first (capped (dists (pts A) (cents (pts A) (columns (wrap 32#32 (iotaInDim S32 32 0)) (wrap 100000#32 (firsts A)))))) b
  have hc : ∀ a : Fin 3, cents (pts A) (columns (wrap 32#32 (iotaInDim S32 32 0)) (wrap 100000#32 (firsts A))) (ix2 b a) = A (ix4 0 b a k) := by
    intro a
    rw [cents_apply (pts A) _ b k a, pts_apply]
    · rw [columns_zero]
      exact wrap_apply _ _ b b.val (by omega) rfl
    · rw [columns_one]
      exact wrap_apply _ _ b k.val (by omega) ek
  refine ⟨k, l, hk, ?_, ek, el⟩
  refine Eq.subst (motive := fun f => FirstMax f l) (funext fun n => ?_) hl
  rw [capped_apply, dists_apply, Fin.sum_univ_three, hc, hc, hc, pts_apply, pts_apply, pts_apply]
  rfl

end Cert.ReferenceIdeal.Fps
-- ==== Proof.Fps.RefRun.lean ====
/- The reference's run: what it leaves in its result, over any start. -/
module

public import proofs.«01_k».proof.Proof.Fps.Reference
public import Idealize.ShloMosaic.Lib.Quiescent

@[expose] public section

set_option maxRecDepth 16384

noncomputable section

namespace Cert.ReferenceIdeal.Fps

open Cert.ReferenceIdeal Idealize.ShloMosaic Idealize.SL.Sem
open Idealize.ShloMosaic.TcCoe

/-- The reference's result, of its argument. -/
def result (A : FVec Ideal S1x32x3x100000 .f32) : IVec S32x2 32 := columns (firsts A) (seconds A)

/-- Every run ends quiescent, the argument unchanged and the result in place. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v31) = result (m ((c.tc : Thread nD τ).loc main_arg0))
        ∧ r.2.mem ((c.tc : Thread nD τ).loc main_arg0) = m ((c.tc : Thread nD τ).loc main_arg0)) := by
  hlo_run
  simp -implicitDefEqProofs only [StableHlo.TRef.toBuf, StableHlo.TRef.ofBuf, cast_cast, cast_eq]
  rfl

/-- The reference runs and ends quiescent. -/
theorem frame : Cert.quiescent_ReferenceIdeal := fun m g _ =>
  (θ_run defs _ _).mono (fun r h => ⟨fun c => (h c).2, sem_eq_zero_of_no_sems (by decide) r.2⟩) (run m g)

end Cert.ReferenceIdeal.Fps
-- ==== Proof.Fps.Value.lean ====
/- The kernel's rows over the extended reals: the first maximum of a cloud's second coordinates, and the first
   maximum of the capped squared distances from that point, which are the reference's two indices. -/
module

public import proofs.«01_k».proof.Proof.Fps.Best
public import proofs.«01_k».proof.Proof.Fps.Launch
public import proofs.«01_k».proof.Proof.Fps.RefRun
public import proofs.«01_k».proof.Proof.Gen.Pre_some_y_above
public import Idealize.ShloMosaic.Lib.ReduceAll

@[expose] public section

set_option maxRecDepth 65536

noncomputable section

namespace Cert.KernelIdeal.Fps

open Cert.KernelIdeal Cert.Fps Idealize.ShloMosaic Idealize.SL.Sem

/-! ## The window's lane -/

/-- The lane that a small word names. -/
theorem pick_ofNat (v : FVec Ideal S16 .f32) (j l : Nat) (hj : j ≤ l) (hl : l < 16) : pick v (BitVec.ofNat 32 j) l = v (lane j) := by
  induction l with
  | zero => rw [Nat.le_zero.mp hj]; rfl
  | succ l ih =>
    show Scalar.select (BitVec.ofBool (decide (BitVec.ofNat 32 j = BitVec.ofNat 32 (l + 1)))) (v (lane (l + 1))) (pick v (BitVec.ofNat 32 j) l) = _
    rcases Nat.lt_or_eq_of_le hj with h | rfl
    · rw [select_ne, ih (by omega) (by omega)]
      intro e
      have := congrArg BitVec.toNat ((bit_iff _).mp e)
      rw [small _ (by omega), small _ (by omega)] at this
      omega
    · rw [select_one _ ((bit_iff _).mpr rfl)]

/-- The window around a point holds the point. -/
theorem centre_ofNat (x : S9600000.Idx → Ideal .f32) (b a n : Nat) (hn : n < 100000) : centre x b a (BitVec.ofNat 32 n) = coord x b a n := by
  have hb : base (BitVec.ofNat 32 n) = min (8 * (n / 8)) 99984 := by unfold base; rw [small _ hn]
  unfold centre
  rw [hb]
  have hs : Scalar.subi (BitVec.ofNat 32 n) (BitVec.ofNat 32 (min (8 * (n / 8)) 99984)) = BitVec.ofNat 32 (n - min (8 * (n / 8)) 99984) := by
    show BitVec.ofNat 32 n - BitVec.ofNat 32 _ = _
    apply BitVec.eq_of_toNat_eq
    rw [BitVec.toNat_sub, small _ hn, small _ (by omega), small _ (by omega)]
    omega
  rw [hs, pick_ofNat _ _ 15 (by omega) (by decide)]
  show coord x b a (min (8 * (n / 8)) 99984 + (n - min (8 * (n / 8)) 99984) % 16) = _
  congr 1
  omega

/-! ## The coordinates -/

/-- A point's coordinate in the flat array. -/
theorem coord_flat (A : FVec Ideal S1x32x3x100000 .f32) (b : Fin 32) (a : Fin 3) (n : Fin 100000) :
    coord (flatOf A) b.val a.val n.val = A (ix4 0 b a n) := by
  have hb := b.isLt
  have ha := a.isLt
  have hn := n.isLt
  unfold coord flatOf
  rw [Pointwise.shapeCast_apply]
  congr 1
  refine Shape.reshapeEquiv_eq_of_vals _ _ _ _ _ (rowMajor_val4 _ 9600000 300000 100000 rfl rfl rfl) (rowMajor_val1 _) ?_
  show 0 * 9600000 + b.val * 300000 + a.val * 100000 + n.val = (300000 * b.val + 100000 * a.val + n.val) % 9600000
  rw [Nat.mod_eq_of_lt (by omega)]
  omega

/-- The kernel's capped squared distance is the sampling step's. -/
theorem dist_flat (A : FVec Ideal S1x32x3x100000 .f32) (b : Fin 32) (k n : Fin 100000) :
    dist (flatOf A) b.val (BitVec.ofNat 32 k.val) n.val = capDist (fun a n => A (ix4 0 b a n)) k n := by
  unfold dist
  rw [centre_ofNat _ _ _ _ k.isLt, centre_ofNat _ _ _ _ k.isLt, centre_ofNat _ _ _ _ k.isLt]
  have h0 : ∀ n : Fin 100000, coord (flatOf A) b.val 0 n.val = A (ix4 0 b 0 n) := coord_flat A b 0
  have h1 : ∀ n : Fin 100000, coord (flatOf A) b.val 1 n.val = A (ix4 0 b 1 n) := coord_flat A b 1
  have h2 : ∀ n : Fin 100000, coord (flatOf A) b.val 2 n.val = A (ix4 0 b 2 n) := coord_flat A b 2
  rw [h0, h1, h2, h0, h1, h2]
  rfl

/-- A square of an extended real is not negative. -/
theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- The start -10¹⁰ is negative. -/
theorem low_neg : low < 0 := by
  unfold low
  simp [Ideal.ofBits, Ideal.ieee]
  rw [← EReal.coe_pow, ← EReal.coe_mul, EReal.coe_pos]
  norm_num

/-- The cap 10¹⁰ is positive. -/
theorem cap_pos : 0 < cap := by
  unfold cap
  simp [Ideal.ofBits, Ideal.ieee]
  rw [← EReal.coe_pow, ← EReal.coe_mul, EReal.coe_pos]
  norm_num

/-- A capped squared distance exceeds the start of a pass. -/
theorem low_lt_capDist {n : Nat} (x : Fin 3 → Fin n → EReal) (k j : Fin n) : low < capDist x k j :=
  low_neg.trans_le (le_min (add_nonneg (add_nonneg (sq_nonneg _) (sq_nonneg _)) (sq_nonneg _)) cap_pos.le)

/-! ## The precondition -/

/-- Each cloud's largest second coordinate, as the precondition takes it. -/
def tops (A : FVec Ideal S1x32x3x100000 .f32) : FVec Ideal Cert.Pre_some_y_above.S32 .f32 :=
  Host.reduce FloatOps.maximumf
    (shapeCast Cert.Pre_some_y_above.S32x100000 (extractStridedSlice Cert.Pre_some_y_above.S1x32x1x100000 ![0, 0, 1, 0] A
      Cert.Pre_some_y_above.Facts.slices_S1x32x3x100000_S1x32x1x100000_0_0_1_0) Cert.Pre_some_y_above.Facts.shapeCasts_S1x32x1x100000_S32x100000)
    (constant Cert.Pre_some_y_above.S_ .f32 0xFF800000#32) Cert.Pre_some_y_above.Facts.reducesTo_S32x100000_S32_d1 Cert.Pre_some_y_above.Facts.h_S_

/-- The precondition's maximum is that of the cloud's second coordinates. -/
theorem tops_apply (A : FVec Ideal S1x32x3x100000 .f32) (b : Fin 32) :
    tops A (ix1 b) = Finset.univ.fold max (Ideal.ofBits .f32 0xFF800000#32) fun n : Fin 100000 => A (ix4 0 b 1 n) := by
  pointwise [tops]

/-- All of a list of 32 above the start, by the conjunction of their comparisons. -/
theorem all_above (M : FVec Ideal Cert.Pre_some_y_above.S32 .f32)
    (h : Host.reduce IntOp.andi (cmpf .ogt M (broadcastInDim Cert.Pre_some_y_above.S32 ![] Cert.Pre_some_y_above.Facts.bcast_S_S32
      (constant Cert.Pre_some_y_above.S_ .f32 0xD01502F9#32))) (constantI Cert.Pre_some_y_above.S_ 1 1#1)
      Cert.Pre_some_y_above.Facts.reducesTo_S32_S_d0 Cert.Pre_some_y_above.Facts.h_S_ ix0 = 1#1) (b : Fin 32) : low < (M (ix1 b) : EReal) := by
  have hs : Subsingleton Cert.Pre_some_y_above.S_.Idx := ⟨fun _ _ => funext fun a => a.elim0⟩
  have e := Host.reduce_andi_all _ _ _ _ ix0 h (ix1 b)
  exact (gt_iff (M (ix1 b)) low).mp e

/-- The precondition, of an argument: each cloud has a point whose second coordinate is above -10¹⁰. -/
theorem cloud_above (A : FVec Ideal S1x32x3x100000 .f32) (h : Cert.Pre_some_y_above.fn (F := Ideal) A = fun _ => 1#1) (b : Fin 32) :
    ∃ n : Fin 100000, low < (A (ix4 0 b 1 n) : EReal) := by
  have h0 : Host.reduce IntOp.andi (cmpf .ogt (tops A) (broadcastInDim Cert.Pre_some_y_above.S32 ![] Cert.Pre_some_y_above.Facts.bcast_S_S32
      (constant Cert.Pre_some_y_above.S_ .f32 0xD01502F9#32))) (constantI Cert.Pre_some_y_above.S_ 1 1#1)
      Cert.Pre_some_y_above.Facts.reducesTo_S32_S_d0 Cert.Pre_some_y_above.Facts.h_S_ ix0 = 1#1 := congrFun h ix0
  have e := all_above (tops A) h0 b
  rw [tops_apply, Finset.lt_fold_max] at e
  rcases e with e | ⟨n, -, e⟩
  · rw [ofBits_neg_inf] at e
    exact absurd e not_lt_bot
  · exact ⟨n, e⟩

/-! ## The rows -/

/-- The kernel's two samples of a cloud are the reference's. -/
theorem samples (A : FVec Ideal S1x32x3x100000 .f32) (b : Fin 32) (h : ∃ n : Fin 100000, low < (A (ix4 0 b 1 n) : EReal)) :
    first (flatOf A) b.val = Cert.ReferenceIdeal.Fps.firsts A (ix1 b) ∧ second (flatOf A) b.val = Cert.ReferenceIdeal.Fps.seconds A (ix1 b) := by
  obtain ⟨k, l, hk, hl, ek, el⟩ := Cert.ReferenceIdeal.Fps.sample A b
  have hy : ∀ n : Fin 100000, coord (flatOf A) b.val 1 n.val = A (ix4 0 b 1 n) := coord_flat A b 1
  obtain ⟨n, hn⟩ := h
  obtain ⟨k', hk', ek'⟩ := best_first (coord (flatOf A) b.val 1) ⟨n.val, n.isLt, by rw [hy]; exact hn⟩
  simp only [hy] at hk'
  obtain rfl := hk'.unique hk
  have hf : first (flatOf A) b.val = BitVec.ofNat 32 k'.val := ek'
  refine ⟨hf.trans ek.symm, ?_⟩
  unfold second
  rw [hf]
  obtain ⟨l', hl', el'⟩ := best_first (dist (flatOf A) b.val (BitVec.ofNat 32 k'.val)) ⟨0, by decide, by
    have := dist_flat A b k' ⟨0, by decide⟩
    rw [this]
    exact low_lt_capDist _ _ _⟩
  simp only [dist_flat] at hl'
  obtain rfl := hl'.unique hl
  exact el'.trans el.symm

/-- The kernel's result is the reference's. -/
theorem columnsOf_eq (A : FVec Ideal S1x32x3x100000 .f32) (h : Cert.Pre_some_y_above.fn (F := Ideal) A = fun _ => 1#1) :
    columnsOf A = Cert.ReferenceIdeal.Fps.result A := by
  have r0 : ∀ b : Nat, row (flatOf A) b 0 = first (flatOf A) b := fun b => by unfold row; rw [if_pos rfl]
  have r1 : ∀ b : Nat, row (flatOf A) b 1 = second (flatOf A) b := fun b => by unfold row; rw [if_neg Nat.one_ne_zero, if_pos rfl]
  have key : ∀ (b : Fin 32) (c : Fin 2), columnsOf A (ix2 b c) = row (flatOf A) b.val c.val := by
    intro b c
    unfold columnsOf
    generalize flatOf A = x
    rw [extractStridedSlice_apply (k := ix2 b ⟨c.val, by omega⟩) (hk := fun a => by match a with | 0 => exact (Nat.zero_add _).symm | 1 => exact (Nat.zero_add _).symm)]
    rfl
  funext i
  obtain ⟨b, c, rfl⟩ : ∃ (b : Fin 32) (c : Fin 2), i = ix2 b c := ⟨i 0, i 1, by funext a; match a with | 0 => rfl | 1 => rfl⟩
  obtain ⟨h1, h2⟩ := samples A b (cloud_above A h b)
  rw [key]
  unfold Cert.ReferenceIdeal.Fps.result
  match c with
  | 0 =>
    rw [show (0 : Fin 2).val = 0 from rfl, r0, h1]
    exact (Cert.ReferenceIdeal.Fps.columns_zero _ _ _).symm
  | 1 =>
    rw [show (1 : Fin 2).val = 1 from rfl, r1, h2]
    exact (Cert.ReferenceIdeal.Fps.columns_one _ _ _).symm

end Cert.KernelIdeal.Fps
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_some_y_above
public import proofs.«01_k».proof.Proof.Fps.Value
public import Idealize.ShloMosaic.Adequacy
public import Idealize.ShloMosaic.Init

@[expose] public section

noncomputable section

namespace Cert.Proof

open Idealize.ShloMosaic Idealize.SL.Sem Cert.Kernel

/-- The kernel at the chip's floats: its run over any float values, read there. -/
theorem frame_kernel : Cert.quiescent_Kernel := fun m g _ =>
  (θ_run Cert.KernelIdeal.defs _ _).mono (fun _ h => ⟨fun c => (h.1 c).2, h.2⟩) (Cert.KernelIdeal.Fps.run_main (F := Bits) m g)

/-- The same at the extended reals. -/
theorem frame_ideal : Cert.quiescent_KernelIdeal := fun m g _ =>
  (θ_run Cert.KernelIdeal.defs _ _).mono (fun _ h => ⟨fun c => (h.1 c).2, h.2⟩) (Cert.KernelIdeal.Fps.run_main (F := Ideal) m g)

/-- The kernel's result is the reference's, where each cloud has a point whose second coordinate is above -10¹⁰: both
    leave `Cert.ReferenceIdeal.Fps.result` of the argument. -/
theorem algebraic : Cert.algebraic_KernelIdeal_ReferenceIdeal_pre_some_y_above := by
  intro m g m' g' hpre hagree
  refine ⟨fun c => Cert.ReferenceIdeal.Fps.result (m ((c.tc : Thread Cert.KernelIdeal.nD Cert.KernelIdeal.τ).loc Cert.KernelIdeal.main_arg0)), ?_, ?_⟩
  · refine (θ_run Cert.KernelIdeal.defs _ _).mono (fun _ h c => ⟨(h.1 c).1.trans ?_, (h.1 c).2⟩) (Cert.KernelIdeal.Fps.run_main (F := Ideal) m g)
    exact Cert.KernelIdeal.Fps.columnsOf_eq _ (hpre c)
  · refine (θ_run Cert.ReferenceIdeal.defs _ _).mono (fun _ h c => ⟨(h c).1.trans ?_, (h c).2⟩) (Cert.ReferenceIdeal.Fps.run m' g')
    exact congrArg Cert.ReferenceIdeal.Fps.result (hagree c)

/-- The claim: the frames of the three programs, that the idealization preserves the kernel, and the equality of
    results. -/
theorem claim : Cert.Claim := ⟨Cert.Kernel.Gen.facts, Cert.KernelIdeal.Gen.facts, Cert.ReferenceIdeal.Gen.facts, Cert.Pre_some_y_above.Gen.facts,
  frame_kernel, frame_ideal, fun m g _ => frame_ideal m g trivial, Cert.ReferenceIdeal.Fps.frame, fun m g _ => Cert.ReferenceIdeal.Fps.frame m g trivial,
  trivial, algebraic⟩

end Cert.Proof

end
